-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x32x32 : Shape := ⟨4, ![8, 512, 32, 32]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S8x2 : Shape := ⟨2, ![8, 2]⟩
abbrev S36x1024 : Shape := ⟨2, ![36, 1024]⟩
abbrev S9x1024 : Shape := ⟨2, ![9, 1024]⟩
abbrev S8x512x1024 : Shape := ⟨3, ![8, 512, 1024]⟩
abbrev S262144x9 : Shape := ⟨2, ![262144, 9]⟩
abbrev S9x262144 : Shape := ⟨2, ![9, 262144]⟩
abbrev S9x512x512 : Shape := ⟨3, ![9, 512, 512]⟩
abbrev S512x1 : Shape := ⟨2, ![512, 1]⟩
abbrev S9x4x512 : Shape := ⟨3, ![9, 4, 512]⟩
abbrev S4x9x512 : Shape := ⟨3, ![4, 9, 512]⟩
abbrev S36x512 : Shape := ⟨2, ![36, 512]⟩
abbrev S_ : Shape := ⟨0, ![]⟩
abbrev S64x512 : Shape := ⟨2, ![64, 512]⟩
abbrev S18x512 : Shape := ⟨2, ![18, 512]⟩
abbrev S1 : Shape := ⟨1, ![1]⟩
abbrev S64x1 : Shape := ⟨2, ![64, 1]⟩
abbrev S2 : Shape := ⟨1, ![2]⟩
abbrev S9x4 : Shape := ⟨2, ![9, 4]⟩
abbrev S4x9 : Shape := ⟨2, ![4, 9]⟩
abbrev S8x36x1024 : Shape := ⟨3, ![8, 36, 1024]⟩
abbrev S8x18x1024 : Shape := ⟨3, ![8, 18, 1024]⟩
abbrev S1x512x1024 : Shape := ⟨3, ![1, 512, 1024]⟩
abbrev S1x36x1024 : Shape := ⟨3, ![1, 36, 1024]⟩
abbrev S1x18x1024 : Shape := ⟨3, ![1, 18, 1024]⟩
abbrev S512x1024 : Shape := ⟨2, ![512, 1024]⟩
abbrev S1x1024 : Shape := ⟨2, ![1, 1024]⟩
abbrev S1x512x512 : Shape := ⟨3, ![1, 512, 512]⟩
abbrev S512x512 : Shape := ⟨2, ![512, 512]⟩
abbrev S64x1024 : Shape := ⟨2, ![64, 1024]⟩
abbrev S18x1024 : Shape := ⟨2, ![18, 1024]⟩
abbrev S1x1 : Shape := ⟨2, ![1, 1]⟩
abbrev S1x9x1024 : Shape := ⟨3, ![1, 9, 1024]⟩
abbrev S8x4x9x1024 : Shape := ⟨4, ![8, 4, 9, 1024]⟩
abbrev S8x1024x9x4 : Shape := ⟨4, ![8, 1024, 9, 4]⟩
abbrev S8x9216x4 : Shape := ⟨3, ![8, 9216, 4]⟩
abbrev S8x1024x18 : Shape := ⟨3, ![8, 1024, 18]⟩
abbrev S8x9216x2 : Shape := ⟨3, ![8, 9216, 2]⟩

abbrev nBuf : Space → Nat
  | .hbm => 53
  | .vmem => 12
  | .smem => 1
  | _ => 0

abbrev bufTy : (tb : Table) → Fin (tcTables nBuf tb) → BufTy
  | .hbm, ⟨0, _⟩ => ⟨S8x512x32x32, .f32⟩
  | .hbm, ⟨1, _⟩ => ⟨S512x512x3x3, .f32⟩
  | .hbm, ⟨2, _⟩ => ⟨S512, .f32⟩
  | .hbm, ⟨3, _⟩ => ⟨S18x512x1x1, .f32⟩
  | .hbm, ⟨4, _⟩ => ⟨S18, .f32⟩
  | .hbm, ⟨5, _⟩ => ⟨S36x512x1x1, .f32⟩
  | .hbm, ⟨6, _⟩ => ⟨S36, .f32⟩
  | .hbm, ⟨7, _⟩ => ⟨S8x2, .i32⟩
  | .hbm, ⟨8, _⟩ => ⟨S36x1024, .f32⟩
  | .hbm, ⟨9, _⟩ => ⟨S9x1024, .bf16⟩
  | .hbm, ⟨10, _⟩ => ⟨S8x512x1024, .f32⟩
  | .hbm, ⟨11, _⟩ => ⟨S262144x9, .f32⟩
  | .hbm, ⟨12, _⟩ => ⟨S262144x9, .bf16⟩
  | .hbm, ⟨13, _⟩ => ⟨S9x262144, .bf16⟩
  | .hbm, ⟨14, _⟩ => ⟨S9x512x512, .bf16⟩
  | .hbm, ⟨15, _⟩ => ⟨S512x1, .f32⟩
  | .hbm, ⟨16, _⟩ => ⟨S9x4x512, .f32⟩
  | .hbm, ⟨17, _⟩ => ⟨S4x9x512, .f32⟩
  | .hbm, ⟨18, _⟩ => ⟨S36x512, .f32⟩
  | .hbm, ⟨19, _⟩ => ⟨S_, .f32⟩
  | .hbm, ⟨20, _⟩ => ⟨S64x512, .f32⟩
  | .hbm, ⟨21, _⟩ => ⟨S18x512, .f32⟩
  | .hbm, ⟨22, _⟩ => ⟨S_, .i32⟩
  | .hbm, ⟨23, _⟩ => ⟨S1, .i32⟩
  | .hbm, ⟨24, _⟩ => ⟨S64x512, .f32⟩
  | .hbm, ⟨25, _⟩ => ⟨S_, .i32⟩
  | .hbm, ⟨26, _⟩ => ⟨S1, .i32⟩
  | .hbm, ⟨27, _⟩ => ⟨S64x512, .f32⟩
  | .hbm, ⟨28, _⟩ => ⟨S64x512, .bf16⟩
  | .hbm, ⟨29, _⟩ => ⟨S_, .f32⟩
  | .hbm, ⟨30, _⟩ => ⟨S64x1, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S64x1, .f32⟩
  | .hbm, ⟨37, _⟩ => ⟨S9x4, .f32⟩
  | .hbm, ⟨38, _⟩ => ⟨S4x9, .f32⟩
  | .hbm, ⟨39, _⟩ => ⟨S36, .f32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S2, .i32⟩
  | .hbm, ⟨45, _⟩ => ⟨S64x1, .f32⟩
  | .hbm, ⟨46, _⟩ => ⟨S8x36x1024, .f32⟩
  | .hbm, ⟨47, _⟩ => ⟨S8x18x1024, .f32⟩
  | .hbm, ⟨48, _⟩ => ⟨S8x4x9x1024, .f32⟩
  | .hbm, ⟨49, _⟩ => ⟨S8x1024x9x4, .f32⟩
  | .hbm, ⟨50, _⟩ => ⟨S8x9216x4, .f32⟩
  | .hbm, ⟨51, _⟩ => ⟨S8x1024x18, .f32⟩
  | .hbm, ⟨52, _⟩ => ⟨S8x9216x2, .f32⟩
  | .local _ .vmem, ⟨0, _⟩ => ⟨S1x512x1024, .f32⟩
  | .local _ .vmem, ⟨1, _⟩ => ⟨S1x512x1024, .f32⟩
  | .local _ .vmem, ⟨2, _⟩ => ⟨S9x512x512, .bf16⟩
  | .local _ .vmem, ⟨3, _⟩ => ⟨S512x1, .f32⟩
  | .local _ .vmem, ⟨4, _⟩ => ⟨S64x512, .bf16⟩
  | .local _ .vmem, ⟨5, _⟩ => ⟨S64x1, .f32⟩
  | .local _ .vmem, ⟨6, _⟩ => ⟨S36x1024, .f32⟩
  | .local _ .vmem, ⟨7, _⟩ => ⟨S9x1024, .bf16⟩
  | .local _ .vmem, ⟨8, _⟩ => ⟨S1x36x1024, .f32⟩
  | .local _ .vmem, ⟨9, _⟩ => ⟨S1x36x1024, .f32⟩
  | .local _ .vmem, ⟨10, _⟩ => ⟨S1x18x1024, .f32⟩
  | .local _ .vmem, ⟨11, _⟩ => ⟨S1x18x1024, .f32⟩
  | .local _ .smem, ⟨0, _⟩ => ⟨S8x2, .i32⟩
  | _, _ => ⟨S8x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v106 : Index := Scalar.indexCast arg0
  let c0_62 : Index := 0#32
  ![v106.toNat, 0]
def k0_off2 (i : grid0.Coords) : Fin 2 → Nat :=
  let arg0 : BitVec 32 := BitVec.ofNat 32 (i 0).val
  let v109 : Index := Scalar.indexCast arg0
  let c1_63 : Index := 1#32
  ![v109.toNat, 1]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S36x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S8x2 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x36x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x18x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x512x32x32 : Shape := ⟨4, ![8, 512, 32, 32]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S8x2 : Shape := ⟨2, ![8, 2]⟩
abbrev S9x4 : Shape := ⟨2, ![9, 4]⟩
abbrev S_ : Shape := ⟨0, ![]⟩
abbrev S8x512x34x34 : Shape := ⟨4, ![8, 512, 34, 34]⟩
abbrev S512x512x1x1 : Shape := ⟨4, ![512, 512, 1, 1]⟩
abbrev S512x512 : Shape := ⟨2, ![512, 512]⟩
abbrev S8x32x32x512 : Shape := ⟨4, ![8, 32, 32, 512]⟩
abbrev S1x512x1x1 : Shape := ⟨4, ![1, 512, 1, 1]⟩
abbrev S18x512 : Shape := ⟨2, ![18, 512]⟩
abbrev S8x32x32x18 : Shape := ⟨4, ![8, 32, 32, 18]⟩
abbrev S8x18x32x32 : Shape := ⟨4, ![8, 18, 32, 32]⟩
abbrev S1x18x1x1 : Shape := ⟨4, ![1, 18, 1, 1]⟩
abbrev S36x512 : Shape := ⟨2, ![36, 512]⟩
abbrev S8x32x32x36 : Shape := ⟨4, ![8, 32, 32, 36]⟩
abbrev S8x36x32x32 : Shape := ⟨4, ![8, 36, 32, 32]⟩
abbrev S1x36x1x1 : Shape := ⟨4, ![1, 36, 1, 1]⟩
abbrev S8x32x32x9x2 : Shape := ⟨5, ![8, 32, 32, 9, 2]⟩
abbrev S8x32x32x9x4 : Shape := ⟨5, ![8, 32, 32, 9, 4]⟩
abbrev S8x9216x2 : Shape := ⟨3, ![8, 9216, 2]⟩
abbrev S8x9216x4 : Shape := ⟨3, ![8, 9216, 4]⟩
abbrev S32 : Shape := ⟨1, ![32]⟩
abbrev S1x32 : Shape := ⟨2, ![1, 32]⟩
abbrev S32x32 : Shape := ⟨2, ![32, 32]⟩
abbrev S32x1 : Shape := ⟨2, ![32, 1]⟩
abbrev S32x32x1 : Shape := ⟨3, ![32, 32, 1]⟩
abbrev S32x32x4 : Shape := ⟨3, ![32, 32, 4]⟩
abbrev S1x1x9x4 : Shape := ⟨4, ![1, 1, 9, 4]⟩
abbrev S32x32x1x4 : Shape := ⟨4, ![32, 32, 1, 4]⟩
abbrev S32x32x9x4 : Shape := ⟨4, ![32, 32, 9, 4]⟩
abbrev S9216x4 : Shape := ⟨2, ![9216, 4]⟩
abbrev S1x9216x4 : Shape := ⟨3, ![1, 9216, 4]⟩
abbrev S8x1 : Shape := ⟨2, ![8, 1]⟩
abbrev S8 : Shape := ⟨1, ![8]⟩
abbrev S8x9216x1 : Shape := ⟨3, ![8, 9216, 1]⟩
abbrev S8x9216 : Shape := ⟨2, ![8, 9216]⟩

abbrev nBuf : Space → Nat
  | .hbm => 211
  | .vmem => 0
  | .smem => 0
  | _ => 0

abbrev hbmTy0_0 (i : Nat) : BufTy := match i % 128 with
  | 0 => ⟨S8x512x32x32, .f32⟩
  | 1 => ⟨S512x512x3x3, .f32⟩
  | 2 => ⟨S512, .f32⟩
  | 3 => ⟨S18x512x1x1, .f32⟩
  | 4 => ⟨S18, .f32⟩
  | 5 => ⟨S36x512x1x1, .f32⟩
  | 6 => ⟨S36, .f32⟩
  | 7 => ⟨S8x2, .i32⟩
  | 8 => ⟨S9x4, .f32⟩
  | 9 => ⟨S_, .i32⟩
  | 10 => ⟨S_, .f32⟩
  | 11 => ⟨S8x512x34x34, .f32⟩
  | 12 => ⟨S_, .f32⟩
  | 13 => ⟨S8x512x32x32, .f32⟩
  | 14 => ⟨S512x512x1x1, .f32⟩
  | 15 => ⟨S512x512, .f32⟩
  | 16 => ⟨S8x512x32x32, .f32⟩
  | 17 => ⟨S8x32x32x512, .f32⟩
  | 18 => ⟨S8x512x32x32, .f32⟩
  | 19 => ⟨S8x512x32x32, .f32⟩
  | 20 => ⟨S512x512x1x1, .f32⟩
  | 21 => ⟨S512x512, .f32⟩
  | 22 => ⟨S8x512x32x32, .f32⟩
  | 23 => ⟨S8x32x32x512, .f32⟩
  | 24 => ⟨S8x512x32x32, .f32⟩
  | 25 => ⟨S8x512x32x32, .f32⟩
  | 26 => ⟨S512x512x1x1, .f32⟩
  | 27 => ⟨S512x512, .f32⟩
  | 28 => ⟨S8x512x32x32, .f32⟩
  | 29 => ⟨S8x32x32x512, .f32⟩
  | 30 => ⟨S8x512x32x32, .f32⟩
  | 31 => ⟨S8x512x32x32, .f32⟩
  | 32 => ⟨S512x512x1x1, .f32⟩
  | 33 => ⟨S512x512, .f32⟩
  | 34 => ⟨S8x512x32x32, .f32⟩
  | 35 => ⟨S8x32x32x512, .f32⟩
  | 36 => ⟨S8x512x32x32, .f32⟩
  | 37 => ⟨S8x512x32x32, .f32⟩
  | 38 => ⟨S512x512x1x1, .f32⟩
  | 39 => ⟨S512x512, .f32⟩
  | 40 => ⟨S8x512x32x32, .f32⟩
  | 41 => ⟨S8x32x32x512, .f32⟩
  | 42 => ⟨S8x512x32x32, .f32⟩
  | 43 => ⟨S8x512x32x32, .f32⟩
  | 44 => ⟨S512x512x1x1, .f32⟩
  | 45 => ⟨S512x512, .f32⟩
  | 46 => ⟨S8x512x32x32, .f32⟩
  | 47 => ⟨S8x32x32x512, .f32⟩
  | 48 => ⟨S8x512x32x32, .f32⟩
  | 49 => ⟨S8x512x32x32, .f32⟩
  | 50 => ⟨S512x512x1x1, .f32⟩
  | 51 => ⟨S512x512, .f32⟩
  | 52 => ⟨S8x512x32x32, .f32⟩
  | 53 => ⟨S8x32x32x512, .f32⟩
  | 54 => ⟨S8x512x32x32, .f32⟩
  | 55 => ⟨S8x512x32x32, .f32⟩
  | 56 => ⟨S512x512x1x1, .f32⟩
  | 57 => ⟨S512x512, .f32⟩
  | 58 => ⟨S8x512x32x32, .f32⟩
  | 59 => ⟨S8x32x32x512, .f32⟩
  | 60 => ⟨S8x512x32x32, .f32⟩
  | 61 => ⟨S8x512x32x32, .f32⟩
  | 62 => ⟨S512x512x1x1, .f32⟩
  | 63 => ⟨S512x512, .f32⟩
  | 64 => ⟨S8x512x32x32, .f32⟩
  | 65 => ⟨S8x32x32x512, .f32⟩
  | 66 => ⟨S8x512x32x32, .f32⟩
  | 67 => ⟨S8x512x32x32, .f32⟩
  | 68 => ⟨S1x512x1x1, .f32⟩
  | 69 => ⟨S8x512x32x32, .f32⟩
  | 70 => ⟨S8x512x32x32, .f32⟩
  | 71 => ⟨S_, .f32⟩
  | 72 => ⟨S8x512x32x32, .f32⟩
  | 73 => ⟨S8x512x32x32, .f32⟩
  | 74 => ⟨S18x512, .f32⟩
  | 75 => ⟨S8x32x32x18, .f32⟩
  | 76 => ⟨S8x18x32x32, .f32⟩
  | 77 => ⟨S1x18x1x1, .f32⟩
  | 78 => ⟨S8x18x32x32, .f32⟩
  | 79 => ⟨S8x18x32x32, .f32⟩
  | 80 => ⟨S36x512, .f32⟩
  | 81 => ⟨S8x32x32x36, .f32⟩
  | 82 => ⟨S8x36x32x32, .f32⟩
  | 83 => ⟨S1x36x1x1, .f32⟩
  | 84 => ⟨S8x36x32x32, .f32⟩
  | 85 => ⟨S8x36x32x32, .f32⟩
  | 86 => ⟨S8x32x32x18, .f32⟩
  | 87 => ⟨S8x32x32x9x2, .f32⟩
  | 88 => ⟨S8x32x32x36, .f32⟩
  | 89 => ⟨S8x32x32x9x4, .f32⟩
  | 90 => ⟨S8x9216x2, .f32⟩
  | 91 => ⟨S8x9216x4, .f32⟩
  | 92 => ⟨S32, .i32⟩
  | 93 => ⟨S_, .i32⟩
  | 94 => ⟨S32, .i32⟩
  | 95 => ⟨S32, .i32⟩
  | 96 => ⟨S32, .f32⟩
  | 97 => ⟨S32, .i32⟩
  | 98 => ⟨S_, .i32⟩
  | 99 => ⟨S32, .i32⟩
  | 100 => ⟨S32, .i32⟩
  | 101 => ⟨S32, .f32⟩
  | 102 => ⟨S1x32, .f32⟩
  | 103 => ⟨S32x32, .f32⟩
  | 104 => ⟨S32x1, .f32⟩
  | 105 => ⟨S32x32, .f32⟩
  | 106 => ⟨S_, .f32⟩
  | 107 => ⟨S32x32, .f32⟩
  | 108 => ⟨S_, .f32⟩
  | 109 => ⟨S32x32, .f32⟩
  | 110 => ⟨S32x32x1, .f32⟩
  | 111 => ⟨S32x32x1, .f32⟩
  | 112 => ⟨S32x32x1, .f32⟩
  | 113 => ⟨S32x32x1, .f32⟩
  | 114 => ⟨S32x32x4, .f32⟩
  | 115 => ⟨S1x1x9x4, .f32⟩
  | 116 => ⟨S32x32x1x4, .f32⟩
  | 117 => ⟨S32x32x9x4, .f32⟩
  | 118 => ⟨S32x32x9x4, .f32⟩
  | 119 => ⟨S32x32x9x4, .f32⟩
  | 120 => ⟨S9216x4, .f32⟩
  | 121 => ⟨S1x9216x4, .f32⟩
  | 122 => ⟨S8x9216x4, .f32⟩
  | 123 => ⟨S8x9216x2, .f32⟩
  | 124 => ⟨S8x9216x2, .f32⟩
  | 125 => ⟨S8x9216x2, .f32⟩
  | 126 => ⟨S8x9216x2, .f32⟩
  | 127 => ⟨S8x9216x2, .f32⟩
  | _ => ⟨S8x512x32x32, .f32⟩

abbrev hbmTy0_1 (i : Nat) : BufTy := match i % 128 with
  | 0 => ⟨S8x9216x2, .f32⟩
  | 1 => ⟨S8x9216x2, .f32⟩
  | 2 => ⟨S8x9216x2, .f32⟩
  | 3 => ⟨S8x9216x2, .f32⟩
  | 4 => ⟨S8x1, .i32⟩
  | 5 => ⟨S8, .i32⟩
  | 6 => ⟨S8, .f32⟩
  | 7 => ⟨S8x1, .f32⟩
  | 8 => ⟨S8x1, .i32⟩
  | 9 => ⟨S8, .i32⟩
  | 10 => ⟨S8, .f32⟩
  | 11 => ⟨S8x1, .f32⟩
  | 12 => ⟨S8x9216x1, .f32⟩
  | 13 => ⟨S8x9216, .f32⟩
  | 14 => ⟨S8x9216x1, .f32⟩
  | 15 => ⟨S8x9216, .f32⟩
  | 16 => ⟨S_, .f32⟩
  | 17 => ⟨S8x9216, .f32⟩
  | 18 => ⟨S8x9216, .f32⟩
  | 19 => ⟨S8x9216, .f32⟩
  | 20 => ⟨S_, .f32⟩
  | 21 => ⟨S_, .f32⟩
  | 22 => ⟨S8x9216, .f32⟩
  | 23 => ⟨S8x9216, .f32⟩
  | 24 => ⟨S8x9216, .f32⟩
  | 25 => ⟨S8x9216, .f32⟩
  | 26 => ⟨S8x9216x1, .f32⟩
  | 27 => ⟨S8x9216, .f32⟩
  | 28 => ⟨S8x9216x1, .f32⟩
  | 29 => ⟨S8x9216, .f32⟩
  | 30 => ⟨S_, .f32⟩
  | 31 => ⟨S8x9216, .f32⟩
  | 32 => ⟨S8x9216, .f32⟩
  | 33 => ⟨S8x9216, .f32⟩
  | 34 => ⟨S_, .f32⟩
  | 35 => ⟨S_, .f32⟩
  | 36 => ⟨S8x9216, .f32⟩
  | 37 => ⟨S8x9216, .f32⟩
  | 38 => ⟨S8x9216, .f32⟩
  | 39 => ⟨S8x9216, .f32⟩
  | 40 => ⟨S8x9216x1, .f32⟩
  | 41 => ⟨S8x9216, .f32⟩
  | 42 => ⟨S8x9216x1, .f32⟩
  | 43 => ⟨S8x9216, .f32⟩
  | 44 => ⟨S_, .f32⟩
  | 45 => ⟨S8x9216, .f32⟩
  | 46 => ⟨S8x9216, .f32⟩
  | 47 => ⟨S8x9216, .f32⟩
  | 48 => ⟨S_, .f32⟩
  | 49 => ⟨S_, .f32⟩
  | 50 => ⟨S8x9216, .f32⟩
  | 51 => ⟨S8x9216, .f32⟩
  | 52 => ⟨S8x9216, .f32⟩
  | 53 => ⟨S8x9216, .f32⟩
  | 54 => ⟨S8x9216x1, .f32⟩
  | 55 => ⟨S8x9216, .f32⟩
  | 56 => ⟨S8x9216x1, .f32⟩
  | 57 => ⟨S8x9216, .f32⟩
  | 58 => ⟨S_, .f32⟩
  | 59 => ⟨S8x9216, .f32⟩
  | 60 => ⟨S8x9216, .f32⟩
  | 61 => ⟨S8x9216, .f32⟩
  | 62 => ⟨S_, .f32⟩
  | 63 => ⟨S_, .f32⟩
  | 64 => ⟨S8x9216, .f32⟩
  | 65 => ⟨S8x9216, .f32⟩
  | 66 => ⟨S8x9216, .f32⟩
  | 67 => ⟨S8x9216, .f32⟩
  | 68 => ⟨S8x9216, .f32⟩
  | 69 => ⟨S8x9216, .f32⟩
  | 70 => ⟨S_, .f32⟩
  | 71 => ⟨S8x9216, .f32⟩
  | 72 => ⟨S8x9216, .f32⟩
  | 73 => ⟨S8x9216, .f32⟩
  | 74 => ⟨S_, .f32⟩
  | 75 => ⟨S8x9216, .f32⟩
  | 76 => ⟨S8x9216, .f32⟩
  | 77 => ⟨S8x9216, .f32⟩
  | 78 => ⟨S8x9216x1, .f32⟩
  | 79 => ⟨S8x9216x1, .f32⟩
  | 80 => ⟨S8x9216x1, .f32⟩
  | 81 => ⟨S8x9216x1, .f32⟩
  | 82 => ⟨S8x9216x4, .f32⟩
  | _ => ⟨S8x512x32x32, .f32⟩

abbrev hbmTy (i : Nat) : BufTy := match i / 128 with
  | 0 => hbmTy0_0 i
  | 1 => hbmTy0_1 i
  | _ => ⟨S8x512x32x32, .f32⟩

abbrev bufTy : (tb : Table) → Fin (tcTables nBuf tb) → BufTy
  | .hbm, ⟨i, _⟩ => hbmTy i
  | _, _ => ⟨S8x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_call1_cst : Ref sig .tc := ⟨.hbm, 71, rfl⟩
abbrev main_call1_v0 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_c_1 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_c_2 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_3 : Ref sig .tc := ⟨.hbm, 106, rfl⟩
abbrev main_v90 : Ref sig .tc := ⟨.hbm, 107, rfl⟩
abbrev main_cst_4 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_cst_5 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_6 : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_7 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_8 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_call3_v3 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_9 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_10 : Ref sig .tc := ⟨.hbm, 176, rfl⟩
abbrev main_call4_v0 : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_11 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_12 : Ref sig .tc := ⟨.hbm, 190, rfl⟩
abbrev main_call5_v0 : Ref sig .tc := ⟨.hbm, 191, rfl⟩
abbrev main_call5_v1 : Ref sig .tc := ⟨.hbm, 192, rfl⟩
abbrev main_call5_v2 : Ref sig .tc := ⟨.hbm, 193, rfl⟩
abbrev main_call5_v3 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_13 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_14 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩

abbrev nD : Nat := 1
abbrev τ : Topo := Topo.v7x

variable {F : FTy → Type} [FloatOps F]
-- ==== Proof.Spec.lean ====
/- The mathematics both programs compute: a 3×3 convolution with zero padding, a bias and a rectifier, two 1×1
   convolutions (objectness scores and box deltas), and the decoding of the deltas against the anchors into boxes clipped
   to the image. Everything is stated over plain coordinates and extended reals; no program is mentioned. -/
module

public import Idealize.ShloMosaic.Lib.Pointwise

@[expose] public section

noncomputable section

namespace Cert.Rpn

open Idealize.ShloMosaic

/-- The arguments of the region proposal head, at plain coordinates: the feature map, the 3×3 weights and bias, the score
    weights and bias, the delta weights and bias, the image's width and height, and the anchors (centre x, centre y,
    width, height) of the 9216 places. -/
structure Args where
  x : Fin 8 → Fin 512 → Fin 32 → Fin 32 → EReal
  w : Fin 512 → Fin 512 → Fin 3 → Fin 3 → EReal
  wb : Fin 512 → EReal
  cls : Fin 18 → Fin 512 → EReal
  clsb : Fin 18 → EReal
  reg : Fin 36 → Fin 512 → EReal
  regb : Fin 36 → EReal
  img : Fin 8 → Fin 2 → EReal
  anc : Fin 9216 → Fin 4 → EReal

/-- How far the anchors of place `q` (cell `q / 9`, row-major over 32×32) are moved: sixteen pixels a cell, in x and y. -/
def step (q : Fin 9216) (j : Fin 4) : EReal :=
  if j.val = 0 then ((16 * (q.val / 9 % 32 : ℕ) : ℝ) : EReal)
  else if j.val = 1 then ((16 * (q.val / 288 : ℕ) : ℝ) : EReal) else 0

/-- The anchors from the nine shapes (centre x, centre y, width, height) at cell zero. -/
def place (shape : Fin 9 → Fin 4 → EReal) (q : Fin 9216) (j : Fin 4) : EReal :=
  shape ⟨q.val % 9, Nat.mod_lt _ (by norm_num)⟩ j + step q j

variable (A : Args)

/-- The feature map with one ring of zeros around each 32×32 plane, at padded coordinates. -/
def xpad (b : Fin 8) (k : Fin 512) (i j : ℕ) : EReal :=
  if h : (1 ≤ i ∧ i ≤ 32) ∧ (1 ≤ j ∧ j ≤ 32) then A.x b k ⟨i - 1, by omega⟩ ⟨j - 1, by omega⟩ else 0

/-- One of the nine taps of the convolution: the padded map moved by (ky, kx), against that tap's 512×512 weights. -/
def tap (b : Fin 8) (o : Fin 512) (h w : ℕ) (ky kx : Fin 3) : EReal :=
  ∑ k : Fin 512, xpad A b k (ky.val + h) (kx.val + w) * A.w o k ky kx

/-- The convolution with its bias. -/
def conv (b : Fin 8) (o : Fin 512) (h w : ℕ) : EReal :=
  tap A b o h w 0 0 + tap A b o h w 0 1 + tap A b o h w 0 2 + tap A b o h w 1 0 + tap A b o h w 1 1 + tap A b o h w 1 2
    + tap A b o h w 2 0 + tap A b o h w 2 1 + tap A b o h w 2 2 + A.wb o

/-- The rectified convolution. -/
def feat (b : Fin 8) (o : Fin 512) (h w : ℕ) : EReal := max (conv A b o h w) 0

/-- The objectness scores. -/
def score (b : Fin 8) (o : Fin 18) (h w : ℕ) : EReal := ∑ k : Fin 512, feat A b k h w * A.cls o k + A.clsb o

/-- The box deltas. -/
def delta (b : Fin 8) (o : Fin 36) (h w : ℕ) : EReal := ∑ k : Fin 512, feat A b k h w * A.reg o k + A.regb o

/-- The delta of place `q` (cell `q / 9`, anchor shape `q % 9`) in direction `j`. -/
def shift (b : Fin 8) (q : Fin 9216) (j : Fin 4) : EReal :=
  delta A b ⟨q.val % 9 * 4 + j.val, by omega⟩ (q.val / 288) (q.val / 9 % 32)

/-- The centre of the decoded box: `d` is 0 for x, 1 for y. -/
def centre (b : Fin 8) (q : Fin 9216) (d : Fin 2) : EReal :=
  A.anc q ⟨d.val, by omega⟩ + shift A b q ⟨d.val, by omega⟩ * A.anc q ⟨d.val + 2, by omega⟩

/-- The extent of the decoded box. -/
def extent (b : Fin 8) (q : Fin 9216) (d : Fin 2) : EReal :=
  A.anc q ⟨d.val + 2, by omega⟩ * Ideal.exp (shift A b q ⟨d.val + 2, by omega⟩)

/-- One half, as the word 0.5 reads. -/
def half : EReal := Ideal.ofBits .f32 0x3F000000#32

/-- The lower edge, clipped to the image. -/
def lower (b : Fin 8) (q : Fin 9216) (d : Fin 2) : EReal :=
  min (A.img b d) (max 0 (centre A b q d - extent A b q d * half))

/-- The upper edge, clipped to the image. -/
def upper (b : Fin 8) (q : Fin 9216) (d : Fin 2) : EReal :=
  min (A.img b d) (max 0 (centre A b q d + extent A b q d * half))

/-- The clipped box as centre x, centre y, width, height. -/
def box (b : Fin 8) (q : Fin 9216) (j : Fin 4) : EReal :=
  if h : j.val < 2 then
    lower A b q ⟨j.val, h⟩ + (upper A b q ⟨j.val, h⟩ - lower A b q ⟨j.val, h⟩) * half
  else upper A b q ⟨j.val - 2, by omega⟩ - lower A b q ⟨j.val - 2, by omega⟩

/-- The scores of place `q` (cell `q / 9`, anchor shape `q % 9`). -/
def scores (b : Fin 8) (q : Fin 9216) (j : Fin 2) : EReal :=
  score A b ⟨q.val % 9 * 2 + j.val, by omega⟩ (q.val / 288) (q.val / 9 % 32)

/-- A tap read from the flattened map: the column `s` the moved read lands on, kept where the neighbour lies inside the
    plane and multiplied by zero elsewhere, is the zero-padded read. -/
theorem masked_tap (b : Fin 8) (k : Fin 512) (p s : Fin 1024) (ky kx : Fin 3) (xf : Fin 512 → Fin 1024 → EReal) (w mk : EReal)
    (hx : ∀ (k : Fin 512) (s : Fin 1024), xf k s = A.x b k ⟨s.val / 32, by omega⟩ ⟨s.val % 32, by omega⟩)
    (hs : s.val = (p.val + 991 + 32 * ky.val + kx.val) % 1024)
    (hm : mk = if (1 ≤ ky.val + p.val / 32 ∧ ky.val + p.val / 32 ≤ 32) ∧ (1 ≤ kx.val + p.val % 32 ∧ kx.val + p.val % 32 ≤ 32)
      then 1 else 0) :
    w * (xf k s * mk) = xpad A b k (ky.val + p.val / 32) (kx.val + p.val % 32) * w := by
  subst hm
  unfold xpad
  split
  · next h =>
    rw [mul_one, hx, mul_comm]
    congr 2 <;> apply Fin.ext <;> simp only <;> omega
  · rw [mul_zero, mul_zero, zero_mul]

/-- The middle tap needs neither move nor mask. -/
theorem middle_tap (b : Fin 8) (k : Fin 512) (p : Fin 1024) (xf : Fin 512 → Fin 1024 → EReal) (w : EReal)
    (hx : ∀ (k : Fin 512) (s : Fin 1024), xf k s = A.x b k ⟨s.val / 32, by omega⟩ ⟨s.val % 32, by omega⟩) :
    w * xf k p = xpad A b k (1 + p.val / 32) (1 + p.val % 32) * w := by
  have h := masked_tap A b k p p 1 1 xf w 1 hx (by simp only [Fin.val_one]; omega)
    (by rw [if_pos]; simp only [Fin.val_one]; omega)
  rw [mul_one] at h
  exact h

/-- A whole tap read from the flattened map is the convolution's tap. -/
theorem masked_sum (b : Fin 8) (o : Fin 512) (p s : Fin 1024) (ky kx : Fin 3) (xf : Fin 512 → Fin 1024 → EReal)
    (wt : Fin 512 → EReal) (mk : EReal)
    (hx : ∀ (k : Fin 512) (s : Fin 1024), xf k s = A.x b k ⟨s.val / 32, by omega⟩ ⟨s.val % 32, by omega⟩)
    (hw : ∀ k, wt k = A.w o k ky kx)
    (hs : s.val = (p.val + 991 + 32 * ky.val + kx.val) % 1024)
    (hm : mk = if (1 ≤ ky.val + p.val / 32 ∧ ky.val + p.val / 32 ≤ 32) ∧ (1 ≤ kx.val + p.val % 32 ∧ kx.val + p.val % 32 ≤ 32)
      then 1 else 0) :
    ∑ k : Fin 512, wt k * (xf k s * mk) = tap A b o (p.val / 32) (p.val % 32) ky kx :=
  Finset.sum_congr rfl fun k _ => by rw [hw k]; exact masked_tap A b k p s ky kx xf _ mk hx hs hm

/-- The middle tap as a whole. -/
theorem middle_sum (b : Fin 8) (o : Fin 512) (p : Fin 1024) (xf : Fin 512 → Fin 1024 → EReal) (wt : Fin 512 → EReal)
    (hx : ∀ (k : Fin 512) (s : Fin 1024), xf k s = A.x b k ⟨s.val / 32, by omega⟩ ⟨s.val % 32, by omega⟩)
    (hw : ∀ k, wt k = A.w o k 1 1) :
    ∑ k : Fin 512, wt k * xf k p = tap A b o (p.val / 32) (p.val % 32) 1 1 :=
  Finset.sum_congr rfl fun k _ => by rw [hw k]; exact middle_tap A b k p xf _ hx

end Cert.Rpn

end
-- ==== Proof.Words.lean ====
/- The readings of the constant words at the extended reals, and the arguments of the mathematics from the programs' arrays. -/
module

public import proofs.«01_k».proof.ReferenceIdeal
public import proofs.«01_k».proof.Proof.Spec

@[expose] public section

set_option maxRecDepth 16384

noncomputable section

namespace Cert.Rpn

open Idealize.ShloMosaic

/-- The word of 2.0 reads as two. -/
theorem two_word : Ideal.ofBits .f32 0x40000000#32 = ((2 : ℝ) : EReal) := by
  simp only [Ideal.ofBits, Ideal.ieee]
  simp
  rw [← EReal.coe_mul]; norm_num

/-- The word of 0.5 reads as one half. -/
theorem half_word : Ideal.ofBits .f32 0x3F000000#32 = ((2⁻¹ : ℝ) : EReal) := by
  simp [Ideal.ofBits, Ideal.ieee]
  rw [← EReal.coe_mul]; norm_num

/-- The word of 8.0 reads as eight. -/
theorem eight_word : Ideal.ofBits .f32 0x41000000#32 = ((8 : ℝ) : EReal) := by
  simp only [Ideal.ofBits, Ideal.ieee]
  simp
  rw [← EReal.coe_mul]; norm_num

/-- The zero word reads as zero. -/
theorem zero_word : Ideal.ofBits .f32 0#32 = (0 : EReal) := by
  simp [Ideal.ofBits, Ideal.ieee]

/-- The half-width word of 1.0 reads as one. -/
theorem one_half_width : Ideal.ofBits .bf16 0x3F80#16 = (1 : EReal) := by
  simp [Ideal.ofBits, Ideal.ieee]
  rw [← EReal.coe_mul]; norm_num

/-- The half-width zero word reads as zero. -/
theorem zero_half_width : Ideal.ofBits .bf16 0#16 = (0 : EReal) := by
  simp [Ideal.ofBits, Ideal.ieee]

/-- Dividing by 2.0 is multiplying by 0.5. -/
theorem div_two (x : EReal) : Ideal.div x (Ideal.ofBits .f32 0x40000000#32) = x * Ideal.ofBits .f32 0x3F000000#32 := by
  rw [two_word, half_word, Ideal.div_coe]
  · rw [one_div]
  · norm_num

/-- The integer product of a cell number and sixteen, converted, is sixteen times the cell number. -/
theorem step_val (n : Fin 32) : (FloatOps.sitofp FTy.f32 (IntOp.muli (BitVec.ofNat 32 n.val) 16#32) : Ideal .f32) = ((16 * n.val : ℝ) : EReal) := by
  have h : ∀ n : Fin 32, (IntOp.muli (BitVec.ofNat 32 n.val) 16#32).toInt = 16 * (n.val : ℤ) := by decide
  show (((IntOp.muli (BitVec.ofNat 32 n.val) 16#32).toInt : ℝ) : EReal) = _
  rw [h]; push_cast; rfl

/-- The nine anchor shapes as the reference's constant holds them. -/
def shapes (a : Fin 9) (j : Fin 4) : EReal := Ideal.ofBits .f32 (Cert.ReferenceIdeal.lit0 ⟨a.val * 4 + j.val, by omega⟩)

/-- The arguments of the mathematics, from the eight arrays. -/
def argsOf (x : (⟨4, ![8, 512, 32, 32]⟩ : Shape).Idx → EReal) (w : (⟨4, ![512, 512, 3, 3]⟩ : Shape).Idx → EReal)
    (wb : (⟨1, ![512]⟩ : Shape).Idx → EReal) (cls : (⟨4, ![18, 512, 1, 1]⟩ : Shape).Idx → EReal)
    (clsb : (⟨1, ![18]⟩ : Shape).Idx → EReal) (reg : (⟨4, ![36, 512, 1, 1]⟩ : Shape).Idx → EReal)
    (regb : (⟨1, ![36]⟩ : Shape).Idx → EReal) (img : (⟨2, ![8, 2]⟩ : Shape).Idx → BitVec 32) : Args where
  x b k i j := x (ix4 b k i j)
  w o k i j := w (ix4 o k i j)
  wb o := wb (ix1 o)
  cls o k := cls (ix4 o k 0 0)
  clsb o := clsb (ix1 o)
  reg o k := reg (ix4 o k 0 0)
  regb o := regb (ix1 o)
  img b d := (((img (ix2 b d)).toInt : ℝ) : EReal)
  anc := place shapes

end Cert.Rpn

end
-- ==== Proof.RefVal.lean ====
/- The reference's two results, entry by entry, in the arguments of the mathematics. -/
module

public import proofs.«01_k».proof.Proof.Words
public import proofs.«01_k».proof.Proof.Gen.ReferenceIdeal.Run
public import Idealize.ShloMosaic.Lib.Pipeline.ValueKit

@[expose] public section

set_option maxRecDepth 16384

noncomputable section

namespace Cert.ReferenceIdeal.Val

open Cert.Rpn Cert.ReferenceIdeal Cert.ReferenceIdeal.Gen Cert.ReferenceIdeal.Value Idealize.ShloMosaic Idealize.ShloMosaic.TcCoe
open Idealize.SL.Sem Idealize.ShloMosaic.StableHlo

variable (V0 : Valuation τ sig (Elt Ideal))

/-- The arguments of the mathematics from the reference's argument arrays. -/
abbrev args : Args := argsOf (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5))
  (V0 (Proc.devRef .tc main_arg6)) (V0 (Proc.devRef .tc main_arg7))

/-- The reference's padded feature map. -/
theorem pad_at (b : Fin 8) (k : Fin 512) (i j : Fin 34) :
    res_main_v0 V0 (ix4 b k i j) = xpad (args V0) b k i.val j.val := by
  pointwise [res_main_v0]
  unfold xpad
  by_cases hin : (1 ≤ i.val ∧ i.val ≤ 32) ∧ (1 ≤ j.val ∧ j.val ≤ 32)
  · rw [dif_pos hin, dif_pos]
    · rfl
    · exact fun a : Fin 4 => match a with
        | 0 => ⟨Nat.zero_le _, Nat.mod_one _, (Nat.div_one _).trans_lt b.isLt⟩
        | 1 => ⟨Nat.zero_le _, Nat.mod_one _, (Nat.div_one _).trans_lt k.isLt⟩
        | 2 => ⟨hin.1.1, Nat.mod_one _, (Nat.div_one _).trans_lt (show i.val - 1 < 32 by omega)⟩
        | 3 => ⟨hin.2.1, Nat.mod_one _, (Nat.div_one _).trans_lt (show j.val - 1 < 32 by omega)⟩
  · rw [dif_neg hin, dif_neg]
    · show (((0#32 : BitVec 32).toInt : ℝ) : EReal) = 0
      simp
    · intro h
      have h2 : 1 ≤ i.val ∧ (i.val - 1) % 1 = 0 ∧ (i.val - 1) / 1 < 32 := h (2 : Fin 4)
      have h3 : 1 ≤ j.val ∧ (j.val - 1) % 1 = 0 ∧ (j.val - 1) / 1 < 32 := h (3 : Fin 4)
      exact hin (by omega)

/-- The reference's rectified convolution. -/
theorem feat_at (b : Fin 8) (o : Fin 512) (h w : Fin 32) :
    res_main_v59 V0 (ix4 b o h w) = feat (args V0) b o h.val w.val := by
  pointwise [res_main_v59, res_main_v55]
  unfold feat conv tap
  simp only [pad_at, Fin.val_zero, Fin.val_one, Fin.val_two, zero_add]
  rfl

/-- The reference's deltas. -/
theorem delta_at (b : Fin 8) (q : Fin 9216) (j : Fin 4) :
    res_main_v77 V0 (ix3 b q j) = shift (args V0) b q j := by
  pointwise [res_main_v77]
  simp only [feat_at]
  rfl

/-- The reference's anchors. -/
theorem anchor_at (b : Fin 8) (q : Fin 9216) (j : Fin 4) :
    res_main_v104 V0 (ix3 b q j) = place shapes q j := by
  pointwise [res_main_v104]
  refine congrArg₂ (· + ·) (congrArg (fun n => Ideal.ofBits FTy.f32 (lit0 n)) (Fin.ext (Shape.rowMajor_val_two _))) ?_
  unfold step
  fin_cases j
  · exact step_val ⟨q.val / 9 % 32, by omega⟩
  · exact step_val ⟨q.val / 288, by omega⟩
  · rfl
  · rfl

/-- The reference's lower edge in x. -/
theorem x0_at (b : Fin 8) (q : Fin 9216) : res_main_v129 V0 (ix2 b q) = lower (args V0) b q 0 := by
  pointwise [res_main_v129, res_main_v109, res_main_v113, res_main_v117]
  simp only [anchor_at, delta_at, div_two]
  rw [show (id (constant (F := Ideal) S_ FTy.f32 0#32) ix0 : EReal) = 0 from zero_word]
  rfl

/-- The reference's lower edge in y. -/
theorem y0_at (b : Fin 8) (q : Fin 9216) : res_main_v145 V0 (ix2 b q) = lower (args V0) b q 1 := by
  pointwise [res_main_v145, res_main_v109, res_main_v113, res_main_v121]
  simp only [anchor_at, delta_at, div_two]
  rw [show (id (constant (F := Ideal) S_ FTy.f32 0#32) ix0 : EReal) = 0 from zero_word]
  rfl

/-- The reference's width. -/
theorem nw_at (b : Fin 8) (q : Fin 9216) :
    res_main_v154 V0 (ix2 b q) = upper (args V0) b q 0 - lower (args V0) b q 0 := by
  pointwise [res_main_v154, res_main_v109, res_main_v113, res_main_v117]
  simp only [anchor_at, delta_at, div_two, x0_at]
  rw [show (id (constant (F := Ideal) S_ FTy.f32 0#32) ix0 : EReal) = 0 from zero_word]
  rfl

/-- The reference's height. -/
theorem nh_at (b : Fin 8) (q : Fin 9216) :
    res_main_v155 V0 (ix2 b q) = upper (args V0) b q 1 - lower (args V0) b q 1 := by
  pointwise [res_main_v155, res_main_v109, res_main_v113, res_main_v121]
  simp only [anchor_at, delta_at, div_two, y0_at]
  rw [show (id (constant (F := Ideal) S_ FTy.f32 0#32) ix0 : EReal) = 0 from zero_word]
  rfl

/-- Every run of the reference ends with the clipped boxes and the scores of its arguments. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v166) = (fun i => box (args (launchContents m c)) (i 0) (i 1) (i 2))
      ∧ r.2.mem ((c.tc : Thread nD τ).loc main_v76) = (fun i => scores (args (launchContents m c)) (i 0) (i 1) (i 2)) := by
  refine θ_run_mono (Cert.ReferenceIdeal.Value.run m ρ) fun r h c =>
    ⟨(h c).1.trans (funext fun i => ?_), (h c).2.1.trans (funext fun i => ?_)⟩
  · clear h
    obtain ⟨b, q, j, rfl⟩ : ∃ (b : Fin 8) (q : Fin 9216) (j : Fin 4), i = ix3 b q j := ⟨_, _, _, eq_ix3 i⟩
    show _ = box (args (launchContents m c)) b q j
    pointwise
    simp only [x0_at, y0_at, nw_at, nh_at, div_two]
    fin_cases j <;> rfl
  · clear h
    obtain ⟨b, q, j, rfl⟩ : ∃ (b : Fin 8) (q : Fin 9216) (j : Fin 2), i = ix3 b q j := ⟨_, _, _, eq_ix3 i⟩
    show _ = scores (args (launchContents m c)) b q j
    pointwise
    simp only [feat_at]
    rfl

end Cert.ReferenceIdeal.Val

end
-- ==== Proof.Block.lean ====
/- The kernel's plane of scores and deltas over one image, from the blocks it loads, in the arguments of the mathematics. -/
module

public import proofs.«01_k».proof.Proof.Spec
public import proofs.«01_k».proof.Proof.Gen.KernelIdeal.Skeleton
public import Idealize.ShloMosaic.Lib.Pipeline.ValueKit

@[expose] public section

set_option maxRecDepth 16384

noncomputable section

namespace Cert.KernelIdeal.Val

open Cert.Rpn Cert.KernelIdeal Cert.KernelIdeal.Gen Idealize.ShloMosaic Idealize.ShloMosaic.TcCoe Idealize.SL.Sem

/-- The score-and-delta plane of one image at row `o`, column `p`, from the blocks of the image (`x`), the nine weight
    planes (`w`), the masks (`mk`), the biases and the fused head: the head's row against the rectified convolution. -/
theorem heads_at (A : Args) (b : Fin 8) (x : Vec Ideal S1x512x1024 .f32) (w : Fin 9 → Vec Ideal S1x512x512 .bf16)
    (mk : Fin 9 → Vec Ideal S1x1024 .bf16) (cb : Vec Ideal S512x1 .f32) (hw : Vec Ideal S64x512 .bf16) (hb : Vec Ideal S64x1 .f32)
    (hx : ∀ (k : Fin 512) (s : Fin 1024), (x (ix3 0 k s) : EReal) = A.x b k ⟨s.val / 32, by omega⟩ ⟨s.val % 32, by omega⟩)
    (hwt : ∀ (t : Fin 9) (o k : Fin 512), (w t (ix3 0 o k) : EReal) = A.w o k ⟨t.val / 3, by omega⟩ ⟨t.val % 3, by omega⟩)
    (hmk : ∀ (t : Fin 9) (p : Fin 1024), (mk t (ix2 0 p) : EReal) =
      if (1 ≤ t.val / 3 + p.val / 32 ∧ t.val / 3 + p.val / 32 ≤ 32) ∧ (1 ≤ t.val % 3 + p.val % 32 ∧ t.val % 3 + p.val % 32 ≤ 32)
        then 1 else 0)
    (hcb : ∀ o : Fin 512, (cb (ix2 o 0) : EReal) = A.wb o) (o : Fin 64) (p : Fin 1024) :
    (k0_pay12 (F := Ideal) (k0_pay5 x)
      (k0_pay9 (k0_pay5 x) (k0_pay6 x (mk 0) (w 0) (mk 1) (w 1) (mk 2) (w 2)) (k0_pay7 x) (k0_pay8 (mk 3)) (w 3) (w 4) (mk 5)
        (w 5) (mk 6) (w 6))
      (k0_pay10 (k0_pay5 x) (mk 7)) (k0_pay11 (w 7)) (constant S512x1024 FTy.f32 0#32) (mk 8) (w 8) cb hw hb (ix2 o p) : EReal)
      = ∑ k : Fin 512, hw (ix2 o k) * feat A b k (p.val / 32) (p.val % 32) + hb (ix2 o 0) := by
  pointwise [k0_pay12, k0_pay9, k0_pay6, k0_pay5, k0_pay7, k0_pay8, k0_pay10, k0_pay11]
  refine congrArg₂ (· + ·) (Finset.sum_congr rfl fun k _ => congrArg (hw (ix2 o k) * ·) ?_) rfl
  refine congrArg (max · 0) (congrArg₂ (· + ·) ?_ (hcb k))
  have tp (t : Fin 9) (ky kx : Fin 3) (s : Fin 1024) (hky : ky.val = t.val / 3) (hkx : kx.val = t.val % 3)
      (hs : s.val = (p.val + 991 + 32 * ky.val + kx.val) % 1024) :
      ∑ c : Fin 512, w t (ix3 0 k c) * (x (ix3 0 c s) * mk t (ix2 0 p)) = tap A b k (p.val / 32) (p.val % 32) ky kx :=
    masked_sum A b k p s ky kx (fun c s => x (ix3 0 c s)) (fun c => w t (ix3 0 k c)) _ hx
      (fun c => (hwt t k c).trans (congrArg₂ (A.w k c) (Fin.ext hky.symm) (Fin.ext hkx.symm))) hs
      (by rw [hmk, hky, hkx])
  refine congrArg₂ (· + ·) (congrArg₂ (· + ·) (congrArg₂ (· + ·) (congrArg₂ (· + ·) (congrArg₂ (· + ·) (congrArg₂ (· + ·)
    (congrArg₂ (· + ·) (congrArg₂ (· + ·) (tp 0 0 0 _ rfl rfl ?_) (tp 1 0 1 _ rfl rfl ?_)) (tp 2 0 2 _ rfl rfl ?_))
    (tp 3 1 0 _ rfl rfl ?_)) ?_) (tp 5 1 2 _ rfl rfl ?_)) (tp 6 2 0 _ rfl rfl ?_)) (tp 7 2 1 _ rfl rfl ?_))
    (tp 8 2 2 _ rfl rfl ?_)
  case refine_5 => exact middle_sum A b k p (fun c s => x (ix3 0 c s)) (fun c => w 4 (ix3 0 k c)) hx fun c => hwt 4 k c
  all_goals simp only [Fin.val_zero, Fin.val_one, Fin.val_two]; omega

end Cert.KernelIdeal.Val

end
-- ==== Proof.Decode.lean ====
/- The kernel's decoding of a block of deltas into clipped boxes, entry by entry: what each of the four stores of the box
   block and the one store of the score block holds. -/
module

public import proofs.«01_k».proof.Proof.Words
public import proofs.«01_k».proof.Proof.Gen.KernelIdeal.Skeleton
public import Idealize.ShloMosaic.Lib.Pipeline.ValueKit

@[expose] public section

set_option maxRecDepth 16384

noncomputable section

namespace Cert.KernelIdeal.Val

open Cert.Rpn Cert.KernelIdeal Cert.KernelIdeal.Gen Idealize.ShloMosaic Idealize.ShloMosaic.TcCoe Idealize.SL.Sem

section Slices

variable (v2 : FVec Ideal S512x1024 .bf16) (v55 : FVec Ideal S512x1024 .f32) (v59 : FVec Ideal S512x1024 .bf16)
  (v61 : FVec Ideal S512x512 .bf16) (z : FVec Ideal S512x1024 .f32) (v65 : Vec Ideal S1x1024 .bf16) (v68 : Vec Ideal S1x512x512 .bf16)
  (v72 : Vec Ideal S512x1 .f32) (v78 : Vec Ideal S64x512 .bf16) (v82 : Vec Ideal S64x1 .f32)

/-- The score block is rows 0 to 17 of the head's plane. -/
theorem score_rows (o : Fin 18) (p : Fin 1024) : k0_pay13 v2 v55 v59 v61 z v65 v68 v72 v78 v82 (ix3 0 o p)
    = k0_pay12 v2 v55 v59 v61 z v65 v68 v72 v78 v82 (ix2 ⟨o.val, by omega⟩ p) := by
  pointwise [k0_pay13]

/-- The deltas of the centre's x are rows 18 to 26 of the head's plane. -/
theorem dx_rows (a : Fin 9) (p : Fin 1024) : k0_pay14 v2 v55 v59 v61 z v65 v68 v72 v78 v82 (ix2 a p)
    = k0_pay12 v2 v55 v59 v61 z v65 v68 v72 v78 v82 (ix2 ⟨18 + a.val, by omega⟩ p) := by
  pointwise [k0_pay14]

/-- The deltas of the centre's y are rows 27 to 35. -/
theorem dy_rows (a : Fin 9) (p : Fin 1024) : k0_pay15 v2 v55 v59 v61 z v65 v68 v72 v78 v82 (ix2 a p)
    = k0_pay12 v2 v55 v59 v61 z v65 v68 v72 v78 v82 (ix2 ⟨27 + a.val, by omega⟩ p) := by
  pointwise [k0_pay15]

/-- The deltas of the width are rows 36 to 44. -/
theorem dw_rows (a : Fin 9) (p : Fin 1024) : k0_pay16 v2 v55 v59 v61 z v65 v68 v72 v78 v82 (ix2 a p)
    = k0_pay12 v2 v55 v59 v61 z v65 v68 v72 v78 v82 (ix2 ⟨36 + a.val, by omega⟩ p) := by
  pointwise [k0_pay16]

/-- The deltas of the height are rows 45 to 53. -/
theorem dh_rows (a : Fin 9) (p : Fin 1024) : k0_pay17 v2 v55 v59 v61 z v65 v68 v72 v78 v82 (ix2 a p)
    = k0_pay12 v2 v55 v59 v61 z v65 v68 v72 v78 v82 (ix2 ⟨45 + a.val, by omega⟩ p) := by
  pointwise [k0_pay17]

end Slices

variable (A : Args) (b : Fin 8) (q : Fin 9216) (a : Fin 9) (p : Fin 1024)

section X

variable (dx dw : FVec Ideal S9x1024 .f32) (cx wd : Vec Ideal S9x1024 .f32) (iw : Elt Ideal .i32)
  (hdx : (dx (ix2 a p) : EReal) = shift A b q 0) (hdw : (dw (ix2 a p) : EReal) = shift A b q 2)
  (hcx : (cx (ix2 a p) : EReal) = A.anc q 0) (hwd : (wd (ix2 a p) : EReal) = A.anc q 2)
  (hiw : ((BitVec.toInt (n := 32) iw : ℝ) : EReal) = A.img b 0)

include hdx hdw hcx hwd hiw

/-- The lower edge in x. -/
theorem lower_x : (k0_pay24 dx dw cx wd iw (ix2 a p) : EReal) = lower A b q 0 := by
  pointwise [k0_pay24, k0_pay18, k0_pay20, k0_pay22]
  simp only [hdx, hdw, hcx, hwd, hiw]
  rfl

/-- The width of the clipped box. -/
theorem width_x : (k0_pay26 dx dw cx wd iw (ix2 a p) : EReal) = upper A b q 0 - lower A b q 0 := by
  have h := lower_x A b q a p dx dw cx wd iw hdx hdw hcx hwd hiw
  pointwise [k0_pay26, k0_pay18, k0_pay20, k0_pay22]
  simp only [hdx, hdw, hcx, hwd, hiw, h]
  rfl

/-- The first store of the box block: the centre's x. -/
theorem store_x : (k0_pay1 (k0_pay24 dx dw cx wd iw) (k0_pay28 dx dw cx wd iw) (ix3 0 a p) : EReal) = box A b q 0 := by
  have h := lower_x A b q a p dx dw cx wd iw hdx hdw hcx hwd hiw
  have h' := width_x A b q a p dx dw cx wd iw hdx hdw hcx hwd hiw
  pointwise [k0_pay1, k0_pay28]
  simp only [h, h']
  rfl

/-- The third store of the box block: the width. -/
theorem store_w : (k0_pay3 (k0_pay26 dx dw cx wd iw) (ix3 0 a p) : EReal) = box A b q 2 := by
  have h' := width_x A b q a p dx dw cx wd iw hdx hdw hcx hwd hiw
  pointwise [k0_pay3]
  exact h'

end X

section Y

variable (dy dh : FVec Ideal S9x1024 .f32) (cy ht : Vec Ideal S9x1024 .f32) (ih : Elt Ideal .i32)
  (hdy : (dy (ix2 a p) : EReal) = shift A b q 1) (hdh : (dh (ix2 a p) : EReal) = shift A b q 3)
  (hcy : (cy (ix2 a p) : EReal) = A.anc q 1) (hht : (ht (ix2 a p) : EReal) = A.anc q 3)
  (hih : ((BitVec.toInt (n := 32) ih : ℝ) : EReal) = A.img b 1)

include hdy hdh hcy hht hih

/-- The lower edge in y. -/
theorem lower_y : (k0_pay25 dy dh cy ht ih (ix2 a p) : EReal) = lower A b q 1 := by
  pointwise [k0_pay25, k0_pay19, k0_pay21, k0_pay23]
  simp only [hdy, hdh, hcy, hht, hih]
  rfl

/-- The height of the clipped box. -/
theorem height_y : (k0_pay27 dy dh cy ht ih (ix2 a p) : EReal) = upper A b q 1 - lower A b q 1 := by
  have h := lower_y A b q a p dy dh cy ht ih hdy hdh hcy hht hih
  pointwise [k0_pay27, k0_pay19, k0_pay21, k0_pay23]
  simp only [hdy, hdh, hcy, hht, hih, h]
  rfl

/-- The second store of the box block: the centre's y. -/
theorem store_y : (k0_pay2 (k0_pay25 dy dh cy ht ih) (k0_pay27 dy dh cy ht ih) (ix3 0 a p) : EReal) = box A b q 1 := by
  have h := lower_y A b q a p dy dh cy ht ih hdy hdh hcy hht hih
  have h' := height_y A b q a p dy dh cy ht ih hdy hdh hcy hht hih
  pointwise [k0_pay2]
  simp only [h, h']
  rfl

/-- The fourth store of the box block: the height. -/
theorem store_h : (k0_pay4 (k0_pay27 dy dh cy ht ih) (ix3 0 a p) : EReal) = box A b q 3 := by
  have h' := height_y A b q a p dy dh cy ht ih hdy hdh hcy hht hih
  pointwise [k0_pay4]
  exact h'

end Y

end Cert.KernelIdeal.Val

end
-- ==== Proof.TableMask.lean ====
/- The kernel's constant table of neighbour masks, one row of 1024 words for each of the nine taps, word by word. -/
module

public import proofs.«01_k».proof.KernelIdeal

@[expose] public section

set_option maxRecDepth 16384

noncomputable section

namespace Cert.Tables

open Idealize.ShloMosaic

/-- The kernel's mask table: at tap `t` and cell (h, w) the word of one where the neighbour lies inside the plane, of zero
    elsewhere. -/
theorem table_mask : ∀ (t : Fin 9) (h w : Fin 32),
    Cert.KernelIdeal.lit1 ⟨t.val * 1024 + (h.val * 32 + w.val), by show _ < 9216; omega⟩ =
      if (1 ≤ t.val / 3 + h.val ∧ t.val / 3 + h.val ≤ 32) ∧ (1 ≤ t.val % 3 + w.val ∧ t.val % 3 + w.val ≤ 32)
        then 0x3F80#16 else 0#16 := by
  decide +kernel

end Cert.Tables

end
-- ==== Proof.TableCentres.lean ====
/- The first eighteen rows of the kernel's constant anchor table, the centres of the anchors, word by word. -/
module

public import proofs.«01_k».proof.KernelIdeal

@[expose] public section

set_option maxRecDepth 16384

noncomputable section

namespace Cert.Tables

open Idealize.ShloMosaic

/-- The word of `8 + 16·n`, for a cell number `n` below 32: with `e` the binary logarithm of the odd number `2n + 1`, the
    exponent field is `130 + e` and the fraction field is what `2n + 1` exceeds `2^e` by, moved to the top. -/
def cellWord (n : ℕ) : BitVec 32 :=
  let e := Nat.log2 (2 * n + 1)
  BitVec.ofNat 32 ((130 + e) * 2 ^ 23 + (2 * n + 1 - 2 ^ e) * 2 ^ (23 - e))

/-- Rows 0 to 8 of the kernel's anchor table hold the centres' x: the word of `8 + 16·w` at cell (h, w). -/
theorem table_x : ∀ (a : Fin 9) (h w : Fin 32),
    Cert.KernelIdeal.lit0 ⟨a.val * 1024 + (h.val * 32 + w.val), by show _ < 36864; omega⟩ = cellWord w.val := by
  decide +kernel

/-- Rows 9 to 17 hold the centres' y: the word of `8 + 16·h`. -/
theorem table_y : ∀ (a : Fin 9) (h w : Fin 32),
    Cert.KernelIdeal.lit0 ⟨(9 + a.val) * 1024 + (h.val * 32 + w.val), by show _ < 36864; omega⟩ = cellWord h.val := by
  decide +kernel

end Cert.Tables

end
-- ==== Proof.TableExtents.lean ====
/- The last eighteen rows of the kernel's constant anchor table, the widths and heights of the anchors, against the
   reference's 9×4 table of anchor shapes, word by word. -/
module

public import proofs.«01_k».proof.KernelIdeal
public import proofs.«01_k».proof.ReferenceIdeal

@[expose] public section

set_option maxRecDepth 16384

noncomputable section

namespace Cert.Tables

open Idealize.ShloMosaic

/-- Rows 18 to 26 hold the widths, the same in every cell: the reference's table, column 2. -/
theorem table_w : ∀ (a : Fin 9) (h w : Fin 32),
    Cert.KernelIdeal.lit0 ⟨(18 + a.val) * 1024 + (h.val * 32 + w.val), by show _ < 36864; omega⟩ =
      Cert.ReferenceIdeal.lit0 ⟨a.val * 4 + 2, by omega⟩ := by
  decide +kernel

/-- Rows 27 to 35 hold the heights, the same in every cell: the reference's table, column 3. -/
theorem table_h : ∀ (a : Fin 9) (h w : Fin 32),
    Cert.KernelIdeal.lit0 ⟨(27 + a.val) * 1024 + (h.val * 32 + w.val), by show _ < 36864; omega⟩ =
      Cert.ReferenceIdeal.lit0 ⟨a.val * 4 + 3, by omega⟩ := by
  decide +kernel

/-- The reference's table holds the word of 8 in its first two columns. -/
theorem table_eight : ∀ (a : Fin 9) (d : Fin 2), Cert.ReferenceIdeal.lit0 ⟨a.val * 4 + d.val, by omega⟩ = 0x41000000#32 := by
  decide +kernel

end Cert.Tables

end
-- ==== Proof.Anchors.lean ====
/- The kernel's two constant tables read at the extended reals: the anchors are the reference's, the masks are ones and zeros. -/
module

public import proofs.«01_k».proof.Proof.Words
public import proofs.«01_k».proof.Proof.TableMask
public import proofs.«01_k».proof.Proof.TableCentres
public import proofs.«01_k».proof.Proof.TableExtents

@[expose] public section

set_option maxRecDepth 16384

noncomputable section

namespace Cert.Tables

open Idealize.ShloMosaic Cert.Rpn

/-- The word of cell `n` reads as `8 + 16·n`. -/
theorem cell_val (n : Fin 32) : Ideal.ofBits .f32 (cellWord n.val) = ((8 + 16 * n.val : ℝ) : EReal) := by
  have hf : ∀ n : Fin 32, (cellWord n.val).extractLsb' 31 1 = 0#1 ∧ 130 ≤ ((cellWord n.val).extractLsb' 23 8).toNat ∧
      ((cellWord n.val).extractLsb' 23 8).toNat ≤ 135 ∧
      (2 ^ 23 + ((cellWord n.val).extractLsb' 0 23).toNat) * 2 ^ (((cellWord n.val).extractLsb' 23 8).toNat - 130) =
        (8 + 16 * n.val) * 2 ^ 20 := by decide +kernel
  obtain ⟨h0, h1, h2, h3⟩ := hf n
  obtain ⟨d, hd⟩ := Nat.exists_eq_add_of_le h1
  rw [hd, Nat.add_sub_cancel_left] at h3
  simp only [Ideal.ofBits, Ideal.ieee]
  rw [if_neg (by omega), if_neg (by omega), hd]
  rw [show (23 : ℕ) + 8 = 31 from rfl, h0]
  have h3' : ((2 ^ 23 + ((cellWord n.val).extractLsb' 0 23).toNat : ℕ) : ℝ) * 2 ^ d = (8 + 16 * (n.val : ℝ)) * 2 ^ 20 := by
    exact_mod_cast congrArg (Nat.cast : ℕ → ℝ) h3
  have hz : (2 : ℝ) ^ (((130 + d : ℕ) : ℤ) - ((2 : ℤ) ^ (8 - 1) - 1) - ((23 : ℕ) : ℤ)) = 2 ^ d * (2 ^ 20)⁻¹ := by
    rw [show (((130 + d : ℕ) : ℤ) - ((2 : ℤ) ^ (8 - 1) - 1) - ((23 : ℕ) : ℤ)) = (d : ℤ) - ((20 : ℕ) : ℤ) by push_cast; ring,
      zpow_sub₀ two_ne_zero, zpow_natCast, zpow_natCast, div_eq_mul_inv]
  rw [hz, if_neg (by decide), one_mul, ← mul_assoc, h3', mul_assoc, mul_inv_cancel₀ (by positivity), mul_one]

/-- The kernel's mask word at tap `t`, column `p`, reads as one where the neighbour lies inside the plane, zero elsewhere. -/
theorem mask_val (t : Fin 9) (p : Fin 1024) (i : Fin 9216) (hi : i.val = t.val * 1024 + p.val) :
    Ideal.ofBits .bf16 (Cert.KernelIdeal.lit1 i) =
      if (1 ≤ t.val / 3 + p.val / 32 ∧ t.val / 3 + p.val / 32 ≤ 32) ∧ (1 ≤ t.val % 3 + p.val % 32 ∧ t.val % 3 + p.val % 32 ≤ 32)
        then (1 : EReal) else 0 := by
  have h := table_mask t ⟨p.val / 32, by omega⟩ ⟨p.val % 32, by omega⟩
  have hi' : i = ⟨t.val * 1024 + (p.val / 32 * 32 + p.val % 32), by omega⟩ := Fin.ext (by simp only; omega)
  rw [hi', h]
  simp only
  split
  · exact one_half_width
  · exact zero_half_width

/-- The kernel's anchor word at row `j·9 + a`, column `p`, reads as the reference's anchor `j` of place `p·9 + a`. -/
theorem anchor_val (j : Fin 4) (a : Fin 9) (p : Fin 1024) (q : Fin 9216) (hq : q.val = p.val * 9 + a.val) (i : Fin 36864)
    (hi : i.val = (j.val * 9 + a.val) * 1024 + p.val) :
    Ideal.ofBits .f32 (Cert.KernelIdeal.lit0 i) = place shapes q j := by
  have h9 : q.val / 9 = p.val := by omega
  have hh : q.val / 288 = p.val / 32 := by rw [← h9, Nat.div_div_eq_div_mul]
  have hp : p.val / 32 * 32 + p.val % 32 = p.val := by omega
  have ha : (⟨q.val % 9, Nat.mod_lt _ (by norm_num)⟩ : Fin 9) = a := Fin.ext (by simp only; omega)
  unfold place step shapes
  rw [ha, h9, hh]
  clear ha
  have hj : j = 0 ∨ j = 1 ∨ j = 2 ∨ j = 3 := by fin_cases j <;> simp
  rcases hj with rfl | rfl | rfl | rfl
  · have h := table_x a ⟨p.val / 32, by omega⟩ ⟨p.val % 32, by omega⟩
    have hi' : i = ⟨a.val * 1024 + (p.val / 32 * 32 + p.val % 32), by omega⟩ := by
      apply Fin.ext
      rw [Fin.val_zero] at hi
      show i.val = a.val * 1024 + (p.val / 32 * 32 + p.val % 32)
      omega
    have e : Cert.ReferenceIdeal.lit0 ⟨a.val * 4 + (0 : Fin 4).val, by omega⟩ = 0x41000000#32 := table_eight a 0
    rw [hi', h, cell_val ⟨p.val % 32, by omega⟩, e, eight_word, if_pos (by rfl), ← EReal.coe_add]
  · have h := table_y a ⟨p.val / 32, by omega⟩ ⟨p.val % 32, by omega⟩
    have hi' : i = ⟨(9 + a.val) * 1024 + (p.val / 32 * 32 + p.val % 32), by omega⟩ := by
      apply Fin.ext
      rw [Fin.val_one] at hi
      show i.val = (9 + a.val) * 1024 + (p.val / 32 * 32 + p.val % 32)
      omega
    have e : Cert.ReferenceIdeal.lit0 ⟨a.val * 4 + (1 : Fin 4).val, by omega⟩ = 0x41000000#32 := table_eight a 1
    rw [hi', h, cell_val ⟨p.val / 32, by omega⟩, e, eight_word, if_neg (by decide), if_pos (by rfl),
      ← EReal.coe_add]
  · have h := table_w a ⟨p.val / 32, by omega⟩ ⟨p.val % 32, by omega⟩
    have hi' : i = ⟨(18 + a.val) * 1024 + (p.val / 32 * 32 + p.val % 32), by omega⟩ := by
      apply Fin.ext
      rw [Fin.val_two] at hi
      show i.val = (18 + a.val) * 1024 + (p.val / 32 * 32 + p.val % 32)
      omega
    rw [hi', h, if_neg (by decide), if_neg (by decide), add_zero]
    rfl
  · have h := table_h a ⟨p.val / 32, by omega⟩ ⟨p.val % 32, by omega⟩
    have hi' : i = ⟨(27 + a.val) * 1024 + (p.val / 32 * 32 + p.val % 32), by omega⟩ := by
      apply Fin.ext
      rw [show (3 : Fin 4).val = 3 from rfl] at hi
      show i.val = (27 + a.val) * 1024 + (p.val / 32 * 32 + p.val % 32)
      omega
    rw [hi', h, if_neg (by decide), if_neg (by decide), add_zero]
    rfl

end Cert.Tables

end
-- ==== Proof.Scatter.lean ====
/- Writing consecutive rows of a matrix, as a scatter with one index word does it, read at one element. -/
module

public import Idealize.ShloMosaic.Lib.Pointwise
public import Idealize.ShloMosaic.Lib.Routing.OpsSet
public import Idealize.ShloMosaic.Lib.Routing.OpsOne

@[expose] public section

noncomputable section

namespace Cert.Scatter

open Idealize.ShloMosaic Idealize.ShloMosaic.Routing

/-- Element (k, j) of the rows written lands at (r, c) exactly when the index word, read signed, plus `k` is `r`, and `j` is `c`. -/
theorem rows_land {R C U n : ℕ} (d : ScatterDims (shape2 R C) (shape1 1) (shape2 U C)) (hu : d.updateWindowDims = [0, 1])
    (hi : d.insertedWindowDims = []) (hs : d.scatterDimsToOperandDims = [0]) (idx : IVec (shape1 1) n) (k : Fin U) (j : Fin C)
    (r : Fin R) (c : Fin C) :
    d.resultIdx? (ix2 k j) idx = some (ix2 r c) ↔ (idx (ix1 (0 : Fin 1))).toInt + (k.val : Int) = r.val ∧ j = c := by
  have hkept : d.sKept = [0, 1] := by
    show (shape2 R C).kept d.insertedWindowDims = _
    rw [hi]
    rfl
  have w0 : d.window (ix2 k j) 0 = k.val := by
    have e : ∀ h, d.updateWindowDims[d.sKept.idxOf 0]'h = 0 := by
      rw [hkept, hu]
      intro _
      rfl
    unfold ScatterDims.window
    rw [dif_pos (by rw [hkept]; simp)]
    exact congrArg (fun t => ((ix2 k j : (shape2 U C).Idx) t).val) (e _)
  have w1 : d.window (ix2 k j) 1 = j.val := by
    have e : ∀ h, d.updateWindowDims[d.sKept.idxOf 1]'h = 1 := by
      rw [hkept, hu]
      intro _
      rfl
    unfold ScatterDims.window
    rw [dif_pos (by rw [hkept]; simp)]
    exact congrArg (fun t => ((ix2 k j : (shape2 U C).Idx) t).val) (e _)
  have s0 : d.start (ix2 k j) idx 0 = (idx (ix1 (0 : Fin 1))).toInt := by
    unfold ScatterDims.start
    rw [dif_pos (by rw [hs]; simp)]
    exact congrArg (fun t => (idx t).toInt) ((eq_ix1 _).trans (congrArg ix1 (Subsingleton.elim (α := Fin 1) _ _)))
  have s1 : d.start (ix2 k j) idx 1 = 0 := by
    unfold ScatterDims.start
    rw [dif_neg (by rw [hs]; simp)]
  refine (resultIdx?_ix2 d (ix2 k j) idx r c).trans ?_
  rw [s0, s1, w0, w1, Fin.ext_iff]
  omega

/-- A matrix with rows `i` to `i + U - 1` written, read at a row among them. -/
theorem rows_hit {α : Type} {R C U n : ℕ} (d : ScatterDims (shape2 R C) (shape1 1) (shape2 U C)) (hu : d.updateWindowDims = [0, 1])
    (hi : d.insertedWindowDims = []) (hs : d.scatterDimsToOperandDims = [0]) (x : (shape2 R C).Idx → α) (idx : IVec (shape1 1) n)
    (upd : (shape2 U C).Idx → α) (r : Fin R) (c : Fin C) (k : Fin U) (hk : (idx (ix1 (0 : Fin 1))).toInt + (k.val : Int) = r.val) :
    Host.scatter d (fun _ b => b) x idx upd (ix2 r c) = upd (ix2 k c) := by
  refine scatter_set_hit d x idx upd _ _ (fun t ht => ?_) (ix2 k c) ((rows_land d hu hi hs idx k c r c).2 ⟨hk, rfl⟩)
  obtain ⟨k', j', rfl⟩ : ∃ (k' : Fin U) (j' : Fin C), t = ix2 k' j' := ⟨t 0, t 1, eq_ix2 t⟩
  obtain ⟨h1, rfl⟩ := (rows_land d hu hi hs idx k' j' r c).1 ht
  rw [show k' = k from Fin.ext (by omega)]

/-- A matrix with rows written, read at another row. -/
theorem rows_miss {α : Type} {R C U n : ℕ} (d : ScatterDims (shape2 R C) (shape1 1) (shape2 U C)) (hu : d.updateWindowDims = [0, 1])
    (hi : d.insertedWindowDims = []) (hs : d.scatterDimsToOperandDims = [0]) (x : (shape2 R C).Idx → α) (idx : IVec (shape1 1) n)
    (upd : (shape2 U C).Idx → α) (r : Fin R) (c : Fin C)
    (hk : ∀ k : Fin U, (idx (ix1 (0 : Fin 1))).toInt + (k.val : Int) ≠ r.val) :
    Host.scatter d (fun _ b => b) x idx upd (ix2 r c) = x (ix2 r c) := by
  refine scatter_set_miss d x idx upd _ fun t ht => ?_
  obtain ⟨k', j', rfl⟩ : ∃ (k' : Fin U) (j' : Fin C), t = ix2 k' j' := ⟨t 0, t 1, eq_ix2 t⟩
  exact hk k' ((rows_land d hu hi hs idx k' j' r c).1 ht).1

end Cert.Scatter

end
-- ==== Proof.Host.lean ====
/- The arrays the kernel's host prepares before the launch, entry by entry, in the arguments of the mathematics. -/
module

public import proofs.«01_k».proof.Proof.Scatter
public import proofs.«01_k».proof.Proof.Words
public import proofs.«01_k».proof.Proof.Gen.KernelIdeal.Frame
public import proofs.«01_k».proof.Proof.Gen.KernelIdeal.Launch
public import Idealize.ShloMosaic.Lib.Pipeline.ValueKit
public import Idealize.ShloMosaic.Lib.Pipeline.FrameTail
public import Idealize.ShloMosaic.Lib.Claim
public import Idealize.ShloMosaic.Lib.Pointwise

@[expose] public section

set_option maxRecDepth 16384

noncomputable section

namespace Cert.KernelIdeal.Val

open Cert.Rpn Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments of the mathematics from the kernel's argument arrays. -/
abbrev args : Args := argsOf (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))

/-- The feature map with its two plane axes flattened. -/
theorem map_eq : V m c main_v0 = (fun i => (args m c).x (i 0) (i 1)
    ⟨(i 2).val / 32, (Nat.div_lt_iff_lt_mul (by norm_num)).2 (i 2).isLt⟩ ⟨(i 2).val % 32, Nat.mod_lt _ (by norm_num)⟩ :
      FVec Ideal S8x512x1024 .f32) := by
  show StableHlo.after [hostOps0].flatten (fun b => m (c, b)) _ = _
  simp only [List.flatten_cons, List.flatten_nil, List.append_nil]
  entry_read
  funext i
  obtain ⟨b, k, s, rfl⟩ : ∃ (b : Fin 8) (k : Fin 512) (s : Fin 1024), i = ix3 b k s := ⟨_, _, _, eq_ix3 i⟩
  show _ = (args m c).x b k ⟨s.val / 32, _⟩ ⟨s.val % 32, _⟩
  pointwise
  rfl

/-- The 3×3 weights, one 512×512 plane for each tap. -/
theorem weights_eq : V m c main_v4 = (fun i => (args m c).w (i 1) (i 2)
    ⟨(i 0).val / 3, (Nat.div_lt_iff_lt_mul (by norm_num)).2 (i 0).isLt⟩ ⟨(i 0).val % 3, Nat.mod_lt _ (by norm_num)⟩ :
      FVec Ideal S9x512x512 .bf16) := by
  show StableHlo.after [hostOps0].flatten (fun b => m (c, b)) _ = _
  simp only [List.flatten_cons, List.flatten_nil, List.append_nil]
  entry_read
  funext i
  obtain ⟨t, o, k, rfl⟩ : ∃ (t : Fin 9) (o : Fin 512) (k : Fin 512), i = ix3 t o k := ⟨_, _, _, eq_ix3 i⟩
  show _ = (args m c).w o k ⟨t.val / 3, _⟩ ⟨t.val % 3, _⟩
  pointwise
  refine congrArg (m ((c.tc : Thread nD τ).loc main_arg1)) ?_
  refine congrArg₂ (fun o k => ix4 o k _ _) (Fin.ext ?_) (Fin.ext ?_)
  · show (o.val * 512 + k.val) / 512 = o.val
    omega
  · show (o.val * 512 + k.val) % 512 = k.val
    omega

/-- The convolution's bias as a column. -/
theorem bias_eq : V m c main_v5 = (fun i => (args m c).wb (i 0) : FVec Ideal S512x1 .f32) := by
  show StableHlo.after [hostOps0].flatten (fun b => m (c, b)) _ = _
  simp only [List.flatten_cons, List.flatten_nil, List.append_nil]
  entry_read
  funext i
  obtain ⟨o, z, rfl⟩ : ∃ (o : Fin 512) (z : Fin 1), i = ix2 o z := ⟨_, _, eq_ix2 i⟩
  show _ = (args m c).wb o
  pointwise
  rfl

/-- The fused head's weights: eighteen score rows, thirty-six delta rows (direction by anchor shape), ten rows of zeros. -/
def headRow (A : Args) (r : ℕ) (k : Fin 512) : EReal :=
  if h : r < 18 then A.cls ⟨r, h⟩ k
  else if h : r < 54 then A.reg ⟨(r - 18) % 9 * 4 + (r - 18) / 9, by omega⟩ k else 0

/-- The fused head's bias, in the same order of rows. -/
def headBias (A : Args) (r : ℕ) : EReal :=
  if h : r < 18 then A.clsb ⟨r, h⟩
  else if h : r < 54 then A.regb ⟨(r - 18) % 9 * 4 + (r - 18) / 9, by omega⟩ else 0

/-- The fused head's weights as the host writes them into rows of zeros. -/
theorem head_eq : V m c main_v15 = (fun i => headRow (args m c) (i 0).val (i 1) : FVec Ideal S64x512 .bf16) := by
  show StableHlo.after [hostOps0].flatten (fun b => m (c, b)) _ = _
  simp only [List.flatten_cons, List.flatten_nil, List.append_nil]
  entry_read
  funext i
  obtain ⟨r, k, rfl⟩ : ∃ (r : Fin 64) (k : Fin 512), i = ix2 r k := ⟨_, _, eq_ix2 i⟩
  show _ = headRow (args m c) r.val k
  unfold truncf
  unfold headRow
  by_cases h1 : r.val < 18
  · rw [dif_pos h1]
    refine (Scatter.rows_miss _ rfl rfl rfl _ _ _ r k fun t => ?_).trans
      ((Scatter.rows_hit _ rfl rfl rfl _ _ _ r k ⟨r.val, h1⟩ ?_).trans ?_)
    · show (18 : ℤ) + (t.val : ℤ) ≠ r.val
      omega
    · show (0 : ℤ) + (r.val : ℤ) = r.val
      omega
    · pointwise
      rfl
  · rw [dif_neg h1]
    by_cases h2 : r.val < 54
    · rw [dif_pos h2]
      refine (Scatter.rows_hit _ rfl rfl rfl _ _ _ r k ⟨r.val - 18, by omega⟩ ?_).trans ?_
      · show (18 : ℤ) + ((r.val - 18 : ℕ) : ℤ) = r.val
        omega
      · pointwise
        rfl
    · rw [dif_neg h2]
      refine (Scatter.rows_miss _ rfl rfl rfl _ _ _ r k fun t => ?_).trans
        ((Scatter.rows_miss _ rfl rfl rfl _ _ _ r k fun t => ?_).trans zero_word)
      · show (18 : ℤ) + (t.val : ℤ) ≠ r.val
        omega
      · show (0 : ℤ) + (t.val : ℤ) ≠ r.val
        omega

/-- The fused head's bias as the host writes it into a column of zeros. -/
theorem head_bias_eq : V m c main_v27 = (fun i => headBias (args m c) (i 0).val : FVec Ideal S64x1 .f32) := by
  show StableHlo.after [hostOps0].flatten (fun b => m (c, b)) _ = _
  simp only [List.flatten_cons, List.flatten_nil, List.append_nil]
  entry_read
  funext i
  obtain ⟨r, z, rfl⟩ : ∃ (r : Fin 64) (z : Fin 1), i = ix2 r z := ⟨_, _, eq_ix2 i⟩
  refine (Routing.scatter_column_signed scatter_S64x1_S2_S36_0_1_01_0 (by norm_num) rfl rfl rfl _ _ _ _).trans ?_
  show _ = headBias (args m c) r.val
  unfold headBias
  by_cases h1 : r.val < 18
  · rw [dif_pos h1, if_neg]
    · refine (Routing.scatter_column_signed scatter_S64x1_S2_S18_0_1_01_0 (by norm_num) rfl rfl rfl _ _ _ _).trans ?_
      rw [if_pos]
      · refine congrArg (m ((c.tc : Thread nD τ).loc main_arg4)) ?_
        refine congrArg ix1 (Fin.ext ?_)
        show ((r.val : ℤ) - 0).toNat % 18 = r.val
        omega
      · refine ⟨?_, ?_, ?_⟩
        · show (0 : ℤ) = z.val
          omega
        · show (0 : ℤ) ≤ r.val
          omega
        · show (r.val : ℤ) < 0 + 18
          omega
    · rintro ⟨-, h, -⟩
      have h' : (18 : ℤ) ≤ r.val := h
      omega
  · rw [dif_neg h1]
    by_cases h2 : r.val < 54
    · rw [dif_pos h2, if_pos]
      · pointwise
        refine congrArg (m ((c.tc : Thread nD τ).loc main_arg6)) (congrArg ix1 (Fin.ext ?_))
        have e : (18#32).toInt = 18 := rfl
        simp only [e]
        omega
      · refine ⟨?_, ?_, ?_⟩
        · show (0 : ℤ) = z.val
          omega
        · show (18 : ℤ) ≤ r.val
          omega
        · show (r.val : ℤ) < 18 + 36
          omega
    · rw [dif_neg h2, if_neg]
      · refine (Routing.scatter_column_signed scatter_S64x1_S2_S18_0_1_01_0 (by norm_num) rfl rfl rfl _ _ _ _).trans ?_
        rw [if_neg]
        · exact zero_word
        · rintro ⟨-, -, h⟩
          have h' : (r.val : ℤ) < 0 + 18 := h
          omega
      · rintro ⟨-, -, h⟩
        have h' : (r.val : ℤ) < 18 + 36 := h
        omega

/-- The constant anchor table, word by word. -/
theorem anchors_eq : V m c main_cst = (fun i => Ideal.ofBits .f32 (lit0 (S36x1024.rowMajor i)) : FVec Ideal S36x1024 .f32) := by
  show StableHlo.after [hostOps0].flatten (fun b => m (c, b)) _ = _
  simp only [List.flatten_cons, List.flatten_nil, List.append_nil]
  entry_read
  rfl

/-- The constant mask table, word by word. -/
theorem masks_eq : V m c main_cst_0 = (fun i => Ideal.ofBits .bf16 (lit1 (S9x1024.rowMajor i)) : FVec Ideal S9x1024 .bf16) := by
  show StableHlo.after [hostOps0].flatten (fun b => m (c, b)) _ = _
  simp only [List.flatten_cons, List.flatten_nil, List.append_nil]
  entry_read
  rfl

end Cert.KernelIdeal.Val

end
-- ==== Proof.Reads.lean ====
/- What the kernel's blocks hold at one point of the launch, in the arguments of the mathematics. -/
module

public import proofs.«01_k».proof.Proof.Anchors
public import proofs.«01_k».proof.Proof.Host

@[expose] public section

set_option maxRecDepth 16384

noncomputable section

namespace Cert.KernelIdeal.Val

open Cert.Rpn Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- Where the windows' blocks lie: the map's and the two results' at the image of the point, every other at the origin. -/
theorem idx : ∀ t : Fin cfg0.N, (grid0.coords t 0).val = t.val ∧ win0_0.index t = ![t.val, 0, 0] ∧ win0_1.index t = ![0, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0, 0] ∧ win0_9.index t = ![t.val, 0, 0] :=
  (by decide +kernel : ∀ t : Fin grid0.N, _)

/-- The image of a point of the launch. -/
def image (t : Fin cfg0.N) : Fin 8 := ⟨t.val, t.isLt⟩

/-- The block of the feature map. -/
theorem map_read (k : Fin 512) (s : Fin 1024) :
    (iblk m c 0 t (ix3 0 k s) : EReal) = (args m c).x (image t) k ⟨s.val / 32, by omega⟩ ⟨s.val % 32, by omega⟩ := by
  have h : (iblk m c 0 t (ix3 0 k s) : EReal) = V m c main_v0 (ix3 (image t) k s) := by
    blk_point [iblk, image, idx t]
  exact h.trans (congrFun (map_eq m c) _)

/-- Tap `n`'s weights, as the body loads them. -/
abbrev wld (n : Fin 9) : Vec Ideal S1x512x512 .bf16 :=
  View.ld (iblk m c 1 t) (Rect.unit (s := S9x512x512) ![n.val, 0, 0] S1x512x512.size
    ((by decide : ∀ n : Fin 9, ∀ a, (![n.val, 0, 0] : Fin 3 → Nat) a + S1x512x512.size a ≤ S9x512x512.size a) n))

/-- The weights of tap `n`. -/
theorem weights_read (n : Fin 9) (o k : Fin 512) :
    (wld m c t n (ix3 0 o k) : EReal) = (args m c).w o k ⟨n.val / 3, by omega⟩ ⟨n.val % 3, by omega⟩ := by
  have h : (wld m c t n (ix3 0 o k) : EReal) = V m c main_v4 (ix3 n o k) := by
    refine (View.ld_unit_apply_of _ _ _ _ _ (ix3 n o k) ?_).trans ?_
    · exact fun a : Fin 3 => match a with
        | 0 => rfl
        | 1 => (Nat.zero_add _).symm
        | 2 => (Nat.zero_add _).symm
    · blk_point [iblk, idx t]
  exact h.trans (congrFun (weights_eq m c) _)

/-- Tap `n`'s mask, as the body loads it. -/
abbrev mld (n : Fin 9) : Vec Ideal S1x1024 .bf16 :=
  View.ld (iblk m c 6 t) (Rect.unit (s := S9x1024) ![n.val, 0] S1x1024.size
    ((by decide : ∀ n : Fin 9, ∀ a, (![n.val, 0] : Fin 2 → Nat) a + S1x1024.size a ≤ S9x1024.size a) n))

/-- The mask of tap `n`: one where the neighbour lies inside the plane. -/
theorem masks_read (n : Fin 9) (p : Fin 1024) : (mld m c t n (ix2 0 p) : EReal) =
    if (1 ≤ n.val / 3 + p.val / 32 ∧ n.val / 3 + p.val / 32 ≤ 32) ∧ (1 ≤ n.val % 3 + p.val % 32 ∧ n.val % 3 + p.val % 32 ≤ 32)
      then 1 else 0 := by
  have h : (mld m c t n (ix2 0 p) : EReal) = V m c main_cst_0 (ix2 n p) := by
    refine (View.ld_unit_apply_of _ _ _ _ _ (ix2 n p) ?_).trans ?_
    · exact fun a : Fin 2 => match a with
        | 0 => rfl
        | 1 => (Nat.zero_add _).symm
    · blk_point [iblk, idx t]
  exact h.trans ((congrFun (masks_eq m c) _).trans (Tables.mask_val n p _ (Shape.rowMajor_val_two _)))

/-- The convolution's bias. -/
theorem bias_read (o : Fin 512) : (iblk m c 2 t (ix2 o 0) : EReal) = (args m c).wb o := by
  have h : (iblk m c 2 t (ix2 o 0) : EReal) = V m c main_v5 (ix2 o 0) := by
    blk_point [iblk, idx t]
  exact h.trans (congrFun (bias_eq m c) _)

set_option maxRecDepth 100000 in
/-- The fused head's weights. -/
theorem head_read (r : Fin 64) (k : Fin 512) : (iblk m c 3 t (ix2 r k) : EReal) = headRow (args m c) r.val k := by
  have h : (iblk m c 3 t (ix2 r k) : EReal) = V m c main_v15 (ix2 r k) := by
    blk_point [iblk, idx t]
  exact h.trans (congrFun (head_eq m c) _)

/-- The fused head's bias. -/
theorem head_bias_read (r : Fin 64) : (iblk m c 4 t (ix2 r 0) : EReal) = headBias (args m c) r.val := by
  have h : (iblk m c 4 t (ix2 r 0) : EReal) = V m c main_v27 (ix2 r 0) := by
    blk_point [iblk, idx t]
  exact h.trans (congrFun (head_bias_eq m c) _)

/-- The anchors' coordinate `j`, as the body loads it. -/
abbrev ald (j : Fin 4) : Vec Ideal S9x1024 .f32 :=
  View.ld (iblk m c 5 t) (Rect.unit (s := S36x1024) ![9 * j.val, 0] S9x1024.size
    ((by decide : ∀ j : Fin 4, ∀ a, (![9 * j.val, 0] : Fin 2 → Nat) a + S9x1024.size a ≤ S36x1024.size a) j))

/-- The anchor of shape `a` at cell `p`, coordinate `j`. -/
theorem anchors_read (j : Fin 4) (a : Fin 9) (p : Fin 1024) (q : Fin 9216) (hq : q.val = p.val * 9 + a.val) :
    (ald m c t j (ix2 a p) : EReal) = (args m c).anc q j := by
  have h : (ald m c t j (ix2 a p) : EReal) = V m c main_cst (ix2 ⟨j.val * 9 + a.val, by omega⟩ p) := by
    refine (View.ld_unit_apply_of _ _ _ _ _ (ix2 ⟨j.val * 9 + a.val, by omega⟩ p) ?_).trans ?_
    · exact fun d : Fin 2 => match d with
        | 0 => congrArg (· + a.val) (Nat.mul_comm _ _)
        | 1 => (Nat.zero_add _).symm
    · blk_point [iblk, idx t]
  exact h.trans ((congrFun (anchors_eq m c) _).trans (Tables.anchor_val j a p q hq _ (Shape.rowMajor_val_two _)))

/-- The word of the image's size that the body loads at the offset `off`. -/
abbrev sld (off : Fin 2 → Nat) (h : ∀ a, off a + S1x1.size a ≤ S8x2.size a) (h1 : 0 < S1x1.numel) : Elt Ideal .i32 :=
  View.ld (iblk m c 7 t) (Rect.unit (s := S8x2) off S1x1.size h) (Shape.Idx.first h1)

/-- The image's size in direction `d`. -/
theorem size_read (d : Fin 2) (off : Fin 2 → Nat) (h : ∀ a, off a + S1x1.size a ≤ S8x2.size a) (h1 : 0 < S1x1.numel)
    (ho : off = ![(grid0.coords t 0).val, d.val]) :
    ((BitVec.toInt (n := 32) (sld m c t off h h1) : ℝ) : EReal) = (args m c).img (image t) d := by
  have e : sld m c t off h h1 = V m c main_arg7 (ix2 (image t) d) := by
    refine (View.ld_unit_apply_of _ _ _ _ _ (ix2 (image t) d) ?_).trans ?_
    · subst ho
      exact fun a : Fin 2 => match a with
        | 0 => (idx t).1.symm
        | 1 => rfl
    · blk_point [iblk, image, idx t]
  have e' : V m c main_arg7 = m ((c.tc : Thread nD τ).loc main_arg7) := by
    show StableHlo.after [hostOps0].flatten (fun b => m (c, b)) _ = _
    simp only [List.flatten_cons, List.flatten_nil, List.append_nil]
    entry_read
    rfl
  exact congrArg (fun w : BitVec 32 => ((BitVec.toInt w : ℝ) : EReal)) (e.trans (congrFun e' _))

end Cert.KernelIdeal.Val

end
-- ==== Proof.Final.lean ====
/- The two result blocks of one point of the launch, and the two result arrays after it. -/
module

public import proofs.«01_k».proof.Proof.Block
public import proofs.«01_k».proof.Proof.Decode
public import proofs.«01_k».proof.Proof.Reads

@[expose] public section

set_option maxRecDepth 16384

noncomputable section

namespace Cert.KernelIdeal.Val

open Cert.Rpn Cert.KernelIdeal Cert.KernelIdeal.Gen Idealize.ShloMosaic Idealize.ShloMosaic.TcCoe Idealize.SL.Sem
open Idealize.ShloMosaic.Pipeline (Dat)

/-- The box array as the launch lays it out: row `9·j + a`, column `p` holds coordinate `j` of the box of anchor shape `a` at
    cell `p`. -/
def boxRows (A : Args) : FVec Ideal S8x36x1024 .f32 := fun i =>
  box A (i 0) ⟨(i 2).val * 9 + (i 1).val % 9, by have h : (i 2).val < 1024 := (i 2).isLt; omega⟩
    ⟨(i 1).val / 9, by have h : (i 1).val < 36 := (i 1).isLt; omega⟩

/-- The box array at row `9·j + a`, column `p`. -/
theorem boxRows_at (A : Args) (b : Fin 8) (j : Fin 4) (a : Fin 9) (p : Fin 1024) (q : Fin 9216) (hq : q.val = p.val * 9 + a.val)
    (r : Fin 36) (hr : r.val = 9 * j.val + a.val) : boxRows A (ix3 b r p) = box A b q j := by
  refine congrArg₂ (box A b) (Fin.ext ?_) (Fin.ext ?_)
  · show p.val * 9 + r.val % 9 = q.val
    omega
  · show r.val / 9 = j.val
    omega

/-- The score array as the launch lays it out: row `o`, column `p` holds score `o` at cell `p`. -/
def scoreRows (A : Args) : FVec Ideal S8x18x1024 .f32 := fun i => score A (i 0) (i 1) ((i 2).val / 32) ((i 2).val % 32)

variable (m : (ℓ : Loc nD τ sig) → Buf (Elt Ideal) ℓ) (c : Dev nD) (t : Fin cfg0.N)

/-- The plane of the fused head over one image: scores and deltas before the decoding. -/
abbrev plane : FVec Ideal S64x1024 .f32 :=
  k0_pay12 (k0_pay5 (iblk m c 0 t))
    (k0_pay9 (k0_pay5 (iblk m c 0 t))
      (k0_pay6 (iblk m c 0 t) (mld m c t 0) (wld m c t 0) (mld m c t 1) (wld m c t 1) (mld m c t 2) (wld m c t 2))
      (k0_pay7 (iblk m c 0 t)) (k0_pay8 (mld m c t 3)) (wld m c t 3) (wld m c t 4) (mld m c t 5) (wld m c t 5) (mld m c t 6)
      (wld m c t 6))
    (k0_pay10 (k0_pay5 (iblk m c 0 t)) (mld m c t 7)) (k0_pay11 (wld m c t 7)) (constant S512x1024 FTy.f32 0#32) (mld m c t 8)
    (wld m c t 8) (iblk m c 2 t) (iblk m c 3 t) (iblk m c 4 t)

/-- A row of the plane is the head's row against the rectified convolution, with the head's bias. -/
theorem plane_at (o : Fin 64) (p : Fin 1024) : (plane m c t (ix2 o p) : EReal) =
    ∑ k : Fin 512, feat (args m c) (image t) k (p.val / 32) (p.val % 32) * headRow (args m c) o.val k + headBias (args m c) o.val := by
  refine (heads_at (args m c) (image t) (iblk m c 0 t) (wld m c t) (mld m c t) (iblk m c 2 t) (iblk m c 3 t) (iblk m c 4 t)
    (map_read m c t) (weights_read m c t) (masks_read m c t) (bias_read m c t) o p).trans ?_
  refine congrArg₂ (· + ·) (Finset.sum_congr rfl fun k _ => ?_) (head_bias_read m c t o)
  rw [mul_comm]
  exact congrArg _ (head_read m c t o k)

/-- Rows 0 to 17 of the plane are the scores. -/
theorem plane_score (o : Fin 18) (p : Fin 1024) : (plane m c t (ix2 ⟨o.val, by omega⟩ p) : EReal) =
    score (args m c) (image t) o (p.val / 32) (p.val % 32) := by
  refine (plane_at m c t _ p).trans ?_
  unfold score headRow headBias
  simp only [dif_pos o.isLt]

/-- Row `18 + 9·j + a` of the plane at cell `p` is the delta of anchor shape `a` in direction `j`. -/
theorem plane_shift (j : Fin 4) (a : Fin 9) (p : Fin 1024) (q : Fin 9216) (hq : q.val = p.val * 9 + a.val) (o : Fin 64)
    (ho : o.val = 18 + 9 * j.val + a.val) : (plane m c t (ix2 o p) : EReal) = shift (args m c) (image t) q j := by
  refine (plane_at m c t _ p).trans ?_
  have h1 : ¬ o.val < 18 := by omega
  have h2 : o.val < 54 := by omega
  have h9 : q.val / 9 = p.val := by omega
  have hh : q.val / 288 = p.val / 32 := by rw [← h9, Nat.div_div_eq_div_mul]
  have hr : (⟨(o.val - 18) % 9 * 4 + (o.val - 18) / 9, by omega⟩ : Fin 36) = ⟨q.val % 9 * 4 + j.val, by omega⟩ :=
    Fin.ext (by show (o.val - 18) % 9 * 4 + (o.val - 18) / 9 = q.val % 9 * 4 + j.val; omega)
  unfold shift delta headRow headBias
  simp only [dif_neg h1, dif_pos h2, hr, h9, hh]

/-- Where an entry of the box block lies in the box array. -/
theorem box_place (y : ((cfg0.win 8).xblock (cfg0.grid.coords t)).Idx) (r : Fin 36) (p : Fin 1024) (h1 : (y 1).val = r.val)
    (h2 : (y 2).val = p.val) : ((View.whole main_v28_0).slice (win0_8.rect t)).emb y = ix3 (image t) r p := by
  have e := (idx t).2.2.2.2.2.2.2.2.2.1
  have h0 : (y 0).val < 1 := (y 0).isLt
  refine funext fun a : Fin 3 => Fin.ext ?_
  match a with
  | 0 =>
    simp
    rw [e]
    rfl
  | 1 =>
    blk_simp
    rw [e]
    show 0 * 36 + (y 1).val = r.val
    omega
  | 2 =>
    blk_simp
    rw [e]
    show 0 * 1024 + (y 2).val = p.val
    omega

/-- Where an entry of the score block lies in the score array. -/
theorem score_place (y : ((cfg0.win 9).xblock (cfg0.grid.coords t)).Idx) (r : Fin 18) (p : Fin 1024) (h1 : (y 1).val = r.val)
    (h2 : (y 2).val = p.val) : ((View.whole main_v28_1).slice (win0_9.rect t)).emb y = ix3 (image t) r p := by
  have e := (idx t).2.2.2.2.2.2.2.2.2.2
  have h0 : (y 0).val < 1 := (y 0).isLt
  refine funext fun a : Fin 3 => Fin.ext ?_
  match a with
  | 0 =>
    simp
    rw [e]
    rfl
  | 1 =>
    blk_simp
    rw [e]
    show 0 * 18 + (y 1).val = r.val
    omega
  | 2 =>
    blk_simp
    rw [e]
    show 0 * 1024 + (y 2).val = p.val
    omega

/-- The box array after the launch. -/
theorem boxes_final : (dats m 0 c).arrAt 8 (cfg0.N) = boxRows (args m c) := by
  refine (dats m 0 c).arrAt_eq_of_covers 8 _ (by decide +kernel) fun t hf y => ?_
  blk_simp
  rw [after0_8]
  unfold Gen.outsAt0
  frame_out
  canon_tiles x h
  all_goals
    obtain ⟨z, a, p, rfl⟩ : ∃ (z : Fin 1) (a : Fin 9) (p : Fin 1024), x = ix3 z a p := ⟨_, _, _, eq_ix3 x⟩
    obtain rfl : z = 0 := Subsingleton.elim _ _
    have hq : p.val * 9 + a.val < 9216 := by omega
  · refine (store_h (args m c) (image t) ⟨p.val * 9 + a.val, hq⟩ a p _ _ (ald m c t 1) (ald m c t 3) (sld m c t _ _ _) ?_ ?_
      (anchors_read m c t 1 a p _ rfl) (anchors_read m c t 3 a p _ rfl) (size_read m c t 1 _ _ _ (k0_off2_eq _))).trans
      ((congrArg (boxRows (args m c)) (box_place t y ⟨9 * 3 + a.val, by omega⟩ p h1 h2)).trans
        (boxRows_at _ _ 3 a p _ rfl _ rfl)).symm
    · exact (dy_rows _ _ _ _ _ _ _ _ _ _ a p).trans (plane_shift m c t 1 a p _ rfl _ rfl)
    · exact (dh_rows _ _ _ _ _ _ _ _ _ _ a p).trans (plane_shift m c t 3 a p _ rfl _ rfl)
  · refine (store_w (args m c) (image t) ⟨p.val * 9 + a.val, hq⟩ a p _ _ (ald m c t 0) (ald m c t 2) (sld m c t _ _ _) ?_ ?_
      (anchors_read m c t 0 a p _ rfl) (anchors_read m c t 2 a p _ rfl) (size_read m c t 0 _ _ _ (k0_off1_eq _))).trans
      ((congrArg (boxRows (args m c)) (box_place t y ⟨9 * 2 + a.val, by omega⟩ p h1 h2)).trans
        (boxRows_at _ _ 2 a p _ rfl _ rfl)).symm
    · exact (dx_rows _ _ _ _ _ _ _ _ _ _ a p).trans (plane_shift m c t 0 a p _ rfl _ rfl)
    · exact (dw_rows _ _ _ _ _ _ _ _ _ _ a p).trans (plane_shift m c t 2 a p _ rfl _ rfl)
  · refine (store_y (args m c) (image t) ⟨p.val * 9 + a.val, hq⟩ a p _ _ (ald m c t 1) (ald m c t 3) (sld m c t _ _ _) ?_ ?_
      (anchors_read m c t 1 a p _ rfl) (anchors_read m c t 3 a p _ rfl) (size_read m c t 1 _ _ _ (k0_off2_eq _))).trans
      ((congrArg (boxRows (args m c)) (box_place t y ⟨9 * 1 + a.val, by omega⟩ p h1 h2)).trans
        (boxRows_at _ _ 1 a p _ rfl _ rfl)).symm
    · exact (dy_rows _ _ _ _ _ _ _ _ _ _ a p).trans (plane_shift m c t 1 a p _ rfl _ rfl)
    · exact (dh_rows _ _ _ _ _ _ _ _ _ _ a p).trans (plane_shift m c t 3 a p _ rfl _ rfl)
  · refine (store_x (args m c) (image t) ⟨p.val * 9 + a.val, hq⟩ a p _ _ (ald m c t 0) (ald m c t 2) (sld m c t _ _ _) ?_ ?_
      (anchors_read m c t 0 a p _ rfl) (anchors_read m c t 2 a p _ rfl) (size_read m c t 0 _ _ _ (k0_off1_eq _))).trans
      ((congrArg (boxRows (args m c)) (box_place t y ⟨9 * 0 + a.val, by omega⟩ p (h1.trans (Nat.zero_add _).symm) h2)).trans
        (boxRows_at _ _ 0 a p _ rfl _ rfl)).symm
    · exact (dx_rows _ _ _ _ _ _ _ _ _ _ a p).trans (plane_shift m c t 0 a p _ rfl _ rfl)
    · exact (dw_rows _ _ _ _ _ _ _ _ _ _ a p).trans (plane_shift m c t 2 a p _ rfl _ rfl)

/-- The score array after the launch. -/
theorem scores_final : (dats m 0 c).arrAt 9 (cfg0.N) = scoreRows (args m c) := by
  refine (dats m 0 c).arrAt_eq_of_covers 9 _ (by decide +kernel) fun t hf y => ?_
  blk_simp
  rw [after0_9]
  unfold Gen.outsAt0
  frame_out
  obtain ⟨z, o, p, hy⟩ : ∃ (z : Fin 1) (o : Fin 18) (p : Fin 1024), y = ix3 z o p := ⟨_, _, _, eq_ix3 y⟩
  obtain rfl : z = 0 := Subsingleton.elim _ _
  refine Eq.trans ?_ (congrArg (scoreRows (args m c)) (score_place t y o p (congrArg (fun y => (y 1).val) hy)
    (congrArg (fun y => (y 2).val) hy))).symm
  subst hy
  exact (score_rows _ _ _ _ _ _ _ _ _ _ o p).trans (plane_score m c t o p)

end Cert.KernelIdeal.Val

end
-- ==== Proof.Tail.lean ====
/- The two results of the kernel: the host's reshapes of the two arrays the launch leaves. -/
module

public import proofs.«01_k».proof.Proof.Final

@[expose] public section

set_option maxRecDepth 16384

noncomputable section

namespace Cert.KernelIdeal.Val

open Cert.Rpn Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- No two windows of the launch share an array. -/
theorem arrays_distinct : Function.Injective (Pipeline.arrRef spec0) := by
  have h : ∀ w w', Pipeline.arrRef spec0 w = Pipeline.arrRef spec0 w' → w = w' := by decide
  exact fun w w' e => h w w' e

/-- The box array after the launch, as the host's lines after it read it. -/
theorem boxes_left : Pipeline.withArrays (cfgs 0).spec c (V0 m c) (fun w => (dats m 0 c).arrAt w (cfgs 0).N)
    (Proc.tc.devRef main_v28_0) = boxRows (args m c) :=
  (Pipeline.withArrays_arr spec0 arrays_distinct c (V0 m c) (fun w => (dats m 0 c).arrAt w (cfgs 0).N) 8).trans (boxes_final m c)

/-- The score array after the launch, as the host's lines after it read it. -/
theorem scores_left : Pipeline.withArrays (cfgs 0).spec c (V0 m c) (fun w => (dats m 0 c).arrAt w (cfgs 0).N)
    (Proc.tc.devRef main_v28_1) = scoreRows (args m c) :=
  (Pipeline.withArrays_arr spec0 arrays_distinct c (V0 m c) (fun w => (dats m 0 c).arrAt w (cfgs 0).N) 9).trans (scores_final m c)

/-- The kernel's first result: the clipped boxes. -/
theorem boxes_result : Pipeline.afterTail₀ cfgs (dats m) 0 (V0 m) [hostOps1] c main_v31 =
    (fun i => box (args m c) (i 0) (i 1) (i 2) : FVec Ideal S8x9216x4 .f32) := by
  unfold Pipeline.afterTail₀
  simp only [List.flatten_cons, List.flatten_nil, List.append_nil]
  after_results
  rw [boxes_left]
  funext i
  obtain ⟨b, q, j, rfl⟩ : ∃ (b : Fin 8) (q : Fin 9216) (j : Fin 4), i = ix3 b q j := ⟨_, _, _, eq_ix3 i⟩
  show shapeCast S8x9216x4 (transpose S8x1024x9x4 [0, 3, 2, 1] (shapeCast S8x4x9x1024 (boxRows (args m c)) _) _) _ (ix3 b q j)
    = box (args m c) b q j
  pointwise
  refine boxRows_at (args m c) b j ⟨q.val % 9, by omega⟩ ⟨q.val / 9, by omega⟩ q ?_ _ ?_
  · show q.val = q.val / 9 * 9 + q.val % 9
    omega
  · show j.val * 9 + q.val % 9 = 9 * j.val + q.val % 9
    omega

/-- The kernel's second result: the scores. -/
theorem scores_result : Pipeline.afterTail₀ cfgs (dats m) 0 (V0 m) [hostOps1] c main_v33 =
    (fun i => scores (args m c) (i 0) (i 1) (i 2) : FVec Ideal S8x9216x2 .f32) := by
  unfold Pipeline.afterTail₀
  simp only [List.flatten_cons, List.flatten_nil, List.append_nil]
  after_results
  rw [scores_left]
  funext i
  obtain ⟨b, q, j, rfl⟩ : ∃ (b : Fin 8) (q : Fin 9216) (j : Fin 2), i = ix3 b q j := ⟨_, _, _, eq_ix3 i⟩
  show shapeCast S8x9216x2 (transpose S8x1024x18 [0, 2, 1] (scoreRows (args m c)) _) _ (ix3 b q j)
    = scores (args m c) b q j
  pointwise
  show score (args m c) b ⟨q.val % 9 * 2 + j.val, _⟩ (q.val / 9 / 32) (q.val / 9 % 32) = _
  rw [Nat.div_div_eq_div_mul]
  rfl

end Cert.KernelIdeal.Val

end
-- ==== Proof.lean ====
/- The proof of the claims: the three programs end with their arguments unchanged and their semaphores at zero, the
   idealized kernel keeps the kernel's text, and over the extended reals the kernel's two results, the clipped boxes and the
   scores, equal the reference's. Both sides are brought to one statement of the mathematics (Proof/Spec.lean): the reference
   in Proof/RefVal.lean, the kernel in Proof/Tail.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefVal
public import proofs.«01_k».proof.Proof.Tail
public import Idealize.ShloMosaic.Lib.Claim
public import Idealize.ShloMosaic.Lib.Pipeline.FrameTail
public import Idealize.ShloMosaic.Adequacy
public import Idealize.ShloMosaic.Init

@[expose] public section

set_option maxRecDepth 16384

noncomputable section

namespace Cert.Proof

open Idealize.ShloMosaic Idealize.SL.Sem

/-- Every run of the reference leaves its arguments unchanged and its semaphores at zero. -/
theorem frame_reference : Cert.quiescent_ReferenceIdeal := by
  intro m g _
  refine θ_run_mono (Cert.ReferenceIdeal.Value.run m g) fun r h => ⟨fun c => ?_, sem_eq_zero_of_no_sems (by decide) r.2⟩
  exact (h c).2.2

/-- On equal arguments the kernel's two results are the reference's: the clipped boxes and the scores. -/
theorem results_equal : Cert.algebraic_KernelIdeal_ReferenceIdeal := by
  intro m g m' g' hpre hagree
  refine ⟨fun c i => Cert.Rpn.box (Cert.KernelIdeal.Val.args m c) (i 0) (i 1) (i 2),
    fun c i => Cert.Rpn.scores (Cert.KernelIdeal.Val.args m c) (i 0) (i 1) (i 2), ?_, ?_⟩
  · clear hagree
    run_from Cert.KernelIdeal.Gen.run_main m g & Cert.KernelIdeal.Gen.unchanged m g
    · exact Cert.KernelIdeal.Val.boxes_result m c
    · exact Cert.KernelIdeal.Val.scores_result m c
  · have hargs (c : Dev Cert.ReferenceIdeal.nD) :
        Cert.ReferenceIdeal.Val.args (StableHlo.launchContents m' c) = Cert.KernelIdeal.Val.args m c := by
      obtain ⟨h0, h1, h2, h3, h4, h5, h6, h7⟩ := hagree c
      exact congr (congr (congr (congr (congr (congr (congr (congrArg Cert.Rpn.argsOf h0) h1) h2) h3) h4) h5) h6) h7
    refine θ_run_mono (θ_run_and (Cert.ReferenceIdeal.Val.run_spec m' g') (Cert.ReferenceIdeal.Value.run m' g')) fun r h c => ?_
    obtain ⟨h1, h2⟩ := h.1 c
    rw [hargs c] at h1 h2
    exact ⟨h1, h2, (h.2 c).2.2⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, results_equal⟩

end Cert.Proof

end
